-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S2x2x1024x512 : Shape := ⟨4, ![2, 2, 1024, 512]⟩
abbrev S2x10x1024x512 : Shape := ⟨4, ![2, 10, 1024, 512]⟩
abbrev S2x1024x512 : Shape := ⟨3, ![2, 1024, 512]⟩
abbrev S2x2 : Shape := ⟨2, ![2, 2]⟩
abbrev S2x10 : Shape := ⟨2, ![2, 10]⟩
abbrev S2 : Shape := ⟨1, ![2]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1024x1024 : Shape := ⟨2, ![1024, 1024]⟩
abbrev S1x1x1024x512 : Shape := ⟨4, ![1, 1, 1024, 512]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .f32⟩
  | .hbm, ⟨2, _⟩ => ⟨S1024x8192, .f32⟩
  | .local _ .vmem, ⟨0, _⟩ => ⟨S4096x1024, .bf16⟩
  | .local _ .vmem, ⟨1, _⟩ => ⟨S2x2x1024x512, .bf16⟩
  | .local _ .vmem, ⟨2, _⟩ => ⟨S2x10x1024x512, .bf16⟩
  | .local _ .vmem, ⟨3, _⟩ => ⟨S1024x8192, .bf16⟩
  | .local _ .vmem, ⟨4, _⟩ => ⟨S2x1024x512, .f32⟩
  | .local _ .vmem, ⟨5, _⟩ => ⟨S2x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 21 29 bufScoped semScoped dmaSemScoped tileCredit tileCredit_eq_zero tileCredit_pos).withBarriers [(0, 20)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 20

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_26 : BitVec 32 := 1#32
  let v37 : BitVec 32 := Scalar.muli v25 c1_i32_26
  let v38 : BitVec 32 := Scalar.addi c0_i32_27 v37
  v38.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_29 : BitVec 32 := 1#32
  let v39 : BitVec 32 := Scalar.muli v13 c1_i32_29
  let v40 : BitVec 32 := Scalar.addi c0_i32_30 v39
  v40.toNat
def k0_off1 (d0 : Dev nD) (c0_i32_61 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v73 : BitVec 32 := Scalar.subi v2 c1_i32_60
  let v74 : BitVec 32 := Scalar.subi v73 c0_i32_61
  let c4_i32_62 : BitVec 32 := 4#32
  let c0_i32_63 : BitVec 32 := 0#32
  let v75 : BitVec 1 := Scalar.cmpi .eq c4_i32_62 c0_i32_63
  let c1_i32_64 : BitVec 32 := 1#32
  let v76 : BitVec 32 := Scalar.select v75 c1_i32_64 c4_i32_62
  let v77 : BitVec 32 := Scalar.remsi v74 v76
  let c0_i32_66 : BitVec 32 := 0#32
  let v79 : BitVec 1 := Scalar.cmpi .slt v77 c0_i32_66
  let c0_i32_67 : BitVec 32 := 0#32
  let v80 : BitVec 1 := Scalar.cmpi .slt v76 c0_i32_67
  let v81 : BitVec 1 := Scalar.xori v79 v80
  let c0_i32_65 : BitVec 32 := 0#32
  let v78 : BitVec 1 := Scalar.cmpi .ne v77 c0_i32_65
  let v82 : BitVec 1 := Scalar.andi v81 v78
  let v83 : BitVec 32 := Scalar.addi v77 v76
  let v84 : BitVec 32 := Scalar.select v82 v83 v77
  let c1024_i32 : BitVec 32 := 1024#32
  let v85 : BitVec 32 := Scalar.muli v84 c1024_i32
  let v86 : Index := Scalar.indexCast v85
  let c0_68 : Index := 0#32
  ![v86.toNat, 0]
def k0_dev3 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_83 : BitVec 32 := 1#32
  let v95 : BitVec 32 := Scalar.muli v13 c1_i32_83
  let v96 : BitVec 32 := Scalar.addi c0_i32_84 v95
  v96.toNat
def k0_off2 (d0 : Dev nD) (c0_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_89 : BitVec 32 := 1#32
  let v105 : BitVec 32 := Scalar.addi v2 c1_i32_89
  let v106 : BitVec 32 := Scalar.addi v105 c0_i32_90
  let c4_i32_91 : BitVec 32 := 4#32
  let c0_i32_92 : BitVec 32 := 0#32
  let v107 : BitVec 1 := Scalar.cmpi .eq c4_i32_91 c0_i32_92
  let c1_i32_93 : BitVec 32 := 1#32
  let v108 : BitVec 32 := Scalar.select v107 c1_i32_93 c4_i32_91
  let v109 : BitVec 32 := Scalar.remsi v106 v108
  let c0_i32_95 : BitVec 32 := 0#32
  let v111 : BitVec 1 := Scalar.cmpi .slt v109 c0_i32_95
  let c0_i32_96 : BitVec 32 := 0#32
  let v112 : BitVec 1 := Scalar.cmpi .slt v108 c0_i32_96
  let v113 : BitVec 1 := Scalar.xori v111 v112
  let c0_i32_94 : BitVec 32 := 0#32
  let v110 : BitVec 1 := Scalar.cmpi .ne v109 c0_i32_94
  let v114 : BitVec 1 := Scalar.andi v113 v110
  let v115 : BitVec 32 := Scalar.addi v109 v108
  let v116 : BitVec 32 := Scalar.select v114 v115 v109
  let c1024_i32_97 : BitVec 32 := 1024#32
  let v117 : BitVec 32 := Scalar.muli v116 c1024_i32_97
  let v118 : Index := Scalar.indexCast v117
  let c0_98 : Index := 0#32
  ![v118.toNat, 0]
def k0_dev4 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_114 : BitVec 32 := 1#32
  let v127 : BitVec 32 := Scalar.muli v25 c1_i32_114
  let v128 : BitVec 32 := Scalar.addi c0_i32_115 v127
  v128.toNat
def k0_dev5 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_176 : BitVec 32 := 1#32
  let v191 : BitVec 32 := Scalar.muli v13 c1_i32_176
  let v192 : BitVec 32 := Scalar.addi c0_i32_177 v191
  v192.toNat
def k0_dev6 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_207 : BitVec 32 := 1#32
  let v223 : BitVec 32 := Scalar.muli v25 c1_i32_207
  let v224 : BitVec 32 := Scalar.addi c0_i32_208 v223
  v224.toNat
def k0_dev7 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_281 : BitVec 32 := 1#32
  let v293 : BitVec 32 := Scalar.muli v13 c1_i32_281
  let v294 : BitVec 32 := Scalar.addi c0_i32_282 v293
  v294.toNat
def k0_dev8 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_325 : BitVec 32 := 1#32
  let v331 : BitVec 32 := Scalar.muli v25 c1_i32_325
  let v332 : BitVec 32 := Scalar.addi c0_i32_326 v331
  v332.toNat
def k0_dev9 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_398 : BitVec 32 := 1#32
  let v401 : BitVec 32 := Scalar.muli v13 c1_i32_398
  let v402 : BitVec 32 := Scalar.addi c0_i32_399 v401
  v402.toNat
def k0_dev10 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_442 : BitVec 32 := 1#32
  let v439 : BitVec 32 := Scalar.muli v25 c1_i32_442
  let v440 : BitVec 32 := Scalar.addi c0_i32_443 v439
  v440.toNat
def k0_dev11 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_516 : BitVec 32 := 1#32
  let v509 : BitVec 32 := Scalar.muli v13 c1_i32_516
  let v510 : BitVec 32 := Scalar.addi c0_i32_517 v509
  v510.toNat
def k0_dev12 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_560 : BitVec 32 := 1#32
  let v547 : BitVec 32 := Scalar.muli v25 c1_i32_560
  let v548 : BitVec 32 := Scalar.addi c0_i32_561 v547
  v548.toNat
def k0_dev13 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_633 : BitVec 32 := 1#32
  let v617 : BitVec 32 := Scalar.muli v13 c1_i32_633
  let v618 : BitVec 32 := Scalar.addi c0_i32_634 v617
  v618.toNat
def k0_dev14 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_677 : BitVec 32 := 1#32
  let v655 : BitVec 32 := Scalar.muli v25 c1_i32_677
  let v656 : BitVec 32 := Scalar.addi c0_i32_678 v655
  v656.toNat
def k0_dev15 (d0 : Dev nD) : Nat :=
  let c0_i32_751 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_750 : BitVec 32 := 1#32
  let v725 : BitVec 32 := Scalar.muli v13 c1_i32_750
  let v726 : BitVec 32 := Scalar.addi c0_i32_751 v725
  v726.toNat
def k0_dev16 (d0 : Dev nD) : Nat :=
  let c0_i32_795 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_794 : BitVec 32 := 1#32
  let v763 : BitVec 32 := Scalar.muli v25 c1_i32_794
  let v764 : BitVec 32 := Scalar.addi c0_i32_795 v763
  v764.toNat
def k0_dev17 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_857 : BitVec 32 := 1#32
  let v823 : BitVec 32 := Scalar.muli v13 c1_i32_857
  let v824 : BitVec 32 := Scalar.addi c0_i32_858 v823
  v824.toNat
def k0_dev18 (d0 : Dev nD) : Nat :=
  let c0_i32_902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_901 : BitVec 32 := 1#32
  let v861 : BitVec 32 := Scalar.muli v25 c1_i32_901
  let v862 : BitVec 32 := Scalar.addi c0_i32_902 v861
  v862.toNat
def k0_dev19 (d0 : Dev nD) : Nat :=
  let c0_i32_959 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_958 : BitVec 32 := 1#32
  let v913 : BitVec 32 := Scalar.muli v25 c1_i32_958
  let v914 : BitVec 32 := Scalar.addi c0_i32_959 v913
  v914.toNat
def k0_dev20 (d0 : Dev nD) : Nat :=
  let c0_i32_968 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_967 : BitVec 32 := 1#32
  let v915 : BitVec 32 := Scalar.muli v13 c1_i32_967
  let v916 : BitVec 32 := Scalar.addi c0_i32_968 v915
  v916.toNat
def k0_dev21 (d0 : Dev nD) : Nat :=
  let c0_i32_1025 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1024 : BitVec 32 := 1#32
  let v967 : BitVec 32 := Scalar.muli v13 c1_i32_1024
  let v968 : BitVec 32 := Scalar.addi c0_i32_1025 v967
  v968.toNat
def k0_dev22 (d0 : Dev nD) : Nat :=
  let c0_i32_1035 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1034 : BitVec 32 := 1#32
  let v969 : BitVec 32 := Scalar.muli v25 c1_i32_1034
  let v970 : BitVec 32 := Scalar.addi c0_i32_1035 v969
  v970.toNat
def k0_dev23 (d0 : Dev nD) : Nat :=
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1091 : BitVec 32 := 1#32
  let v1021 : BitVec 32 := Scalar.muli v25 c1_i32_1091
  let v1022 : BitVec 32 := Scalar.addi c0_i32_1092 v1021
  v1022.toNat
def k0_dev24 (d0 : Dev nD) : Nat :=
  let c0_i32_1101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1100 : BitVec 32 := 1#32
  let v1023 : BitVec 32 := Scalar.muli v13 c1_i32_1100
  let v1024 : BitVec 32 := Scalar.addi c0_i32_1101 v1023
  v1024.toNat
def k0_dev25 (d0 : Dev nD) : Nat :=
  let c0_i32_1158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1157 : BitVec 32 := 1#32
  let v1075 : BitVec 32 := Scalar.muli v13 c1_i32_1157
  let v1076 : BitVec 32 := Scalar.addi c0_i32_1158 v1075
  v1076.toNat
def k0_dev26 (d0 : Dev nD) : Nat :=
  let c0_i32_1168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1167 : BitVec 32 := 1#32
  let v1077 : BitVec 32 := Scalar.muli v25 c1_i32_1167
  let v1078 : BitVec 32 := Scalar.addi c0_i32_1168 v1077
  v1078.toNat
def k0_dev27 (d0 : Dev nD) : Nat :=
  let c0_i32_1224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1223 : BitVec 32 := 1#32
  let v1129 : BitVec 32 := Scalar.muli v25 c1_i32_1223
  let v1130 : BitVec 32 := Scalar.addi c0_i32_1224 v1129
  v1130.toNat
def k0_dev28 (d0 : Dev nD) : Nat :=
  let c0_i32_1238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1237 : BitVec 32 := 1#32
  let v1133 : BitVec 32 := Scalar.muli v13 c1_i32_1237
  let v1134 : BitVec 32 := Scalar.addi c0_i32_1238 v1133
  v1134.toNat
def k0_dev29 (d0 : Dev nD) : Nat :=
  let c0_i32_1295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1294 : BitVec 32 := 1#32
  let v1185 : BitVec 32 := Scalar.muli v13 c1_i32_1294
  let v1186 : BitVec 32 := Scalar.addi c0_i32_1295 v1185
  v1186.toNat
def k0_dev30 (d0 : Dev nD) : Nat :=
  let c0_i32_1309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1308 : BitVec 32 := 1#32
  let v1189 : BitVec 32 := Scalar.muli v25 c1_i32_1308
  let v1190 : BitVec 32 := Scalar.addi c0_i32_1309 v1189
  v1190.toNat
def k0_dev31 (d0 : Dev nD) : Nat :=
  let c0_i32_1365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1364 : BitVec 32 := 1#32
  let v1241 : BitVec 32 := Scalar.muli v25 c1_i32_1364
  let v1242 : BitVec 32 := Scalar.addi c0_i32_1365 v1241
  v1242.toNat
def k0_dev32 (d0 : Dev nD) : Nat :=
  let c0_i32_1379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1378 : BitVec 32 := 1#32
  let v1245 : BitVec 32 := Scalar.muli v13 c1_i32_1378
  let v1246 : BitVec 32 := Scalar.addi c0_i32_1379 v1245
  v1246.toNat
def k0_dev33 (d0 : Dev nD) : Nat :=
  let c0_i32_1436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1435 : BitVec 32 := 1#32
  let v1297 : BitVec 32 := Scalar.muli v13 c1_i32_1435
  let v1298 : BitVec 32 := Scalar.addi c0_i32_1436 v1297
  v1298.toNat
def k0_dev34 (d0 : Dev nD) : Nat :=
  let c0_i32_1450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1449 : BitVec 32 := 1#32
  let v1301 : BitVec 32 := Scalar.muli v25 c1_i32_1449
  let v1302 : BitVec 32 := Scalar.addi c0_i32_1450 v1301
  v1302.toNat
def k0_dev35 (d0 : Dev nD) : Nat :=
  let c0_i32_1506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1505 : BitVec 32 := 1#32
  let v1353 : BitVec 32 := Scalar.muli v25 c1_i32_1505
  let v1354 : BitVec 32 := Scalar.addi c0_i32_1506 v1353
  v1354.toNat
def k0_dev36 (d0 : Dev nD) : Nat :=
  let c0_i32_1520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1519 : BitVec 32 := 1#32
  let v1357 : BitVec 32 := Scalar.muli v13 c1_i32_1519
  let v1358 : BitVec 32 := Scalar.addi c0_i32_1520 v1357
  v1358.toNat
def k0_dev37 (d0 : Dev nD) : Nat :=
  let c0_i32_1577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1576 : BitVec 32 := 1#32
  let v1409 : BitVec 32 := Scalar.muli v13 c1_i32_1576
  let v1410 : BitVec 32 := Scalar.addi c0_i32_1577 v1409
  v1410.toNat
def k0_dev38 (d0 : Dev nD) : Nat :=
  let c0_i32_1591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1590 : BitVec 32 := 1#32
  let v1413 : BitVec 32 := Scalar.muli v25 c1_i32_1590
  let v1414 : BitVec 32 := Scalar.addi c0_i32_1591 v1413
  v1414.toNat
def k0_dev39 (d0 : Dev nD) : Nat :=
  let c0_i32_1647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1646 : BitVec 32 := 1#32
  let v1465 : BitVec 32 := Scalar.muli v25 c1_i32_1646
  let v1466 : BitVec 32 := Scalar.addi c0_i32_1647 v1465
  v1466.toNat
def k0_dev40 (d0 : Dev nD) : Nat :=
  let c0_i32_1661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1660 : BitVec 32 := 1#32
  let v1469 : BitVec 32 := Scalar.muli v13 c1_i32_1660
  let v1470 : BitVec 32 := Scalar.addi c0_i32_1661 v1469
  v1470.toNat
def k0_dev41 (d0 : Dev nD) : Nat :=
  let c0_i32_1718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1717 : BitVec 32 := 1#32
  let v1521 : BitVec 32 := Scalar.muli v13 c1_i32_1717
  let v1522 : BitVec 32 := Scalar.addi c0_i32_1718 v1521
  v1522.toNat
def k0_dev42 (d0 : Dev nD) : Nat :=
  let c0_i32_1732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1731 : BitVec 32 := 1#32
  let v1525 : BitVec 32 := Scalar.muli v25 c1_i32_1731
  let v1526 : BitVec 32 := Scalar.addi c0_i32_1732 v1525
  v1526.toNat
def k0_dev43 (d0 : Dev nD) : Nat :=
  let c0_i32_1788 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1787 : BitVec 32 := 1#32
  let v1577 : BitVec 32 := Scalar.muli v25 c1_i32_1787
  let v1578 : BitVec 32 := Scalar.addi c0_i32_1788 v1577
  v1578.toNat
def k0_dev44 (d0 : Dev nD) : Nat :=
  let c0_i32_1802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1801 : BitVec 32 := 1#32
  let v1581 : BitVec 32 := Scalar.muli v13 c1_i32_1801
  let v1582 : BitVec 32 := Scalar.addi c0_i32_1802 v1581
  v1582.toNat
def k0_dev45 (d0 : Dev nD) : Nat :=
  let c0_i32_1859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1858 : BitVec 32 := 1#32
  let v1633 : BitVec 32 := Scalar.muli v13 c1_i32_1858
  let v1634 : BitVec 32 := Scalar.addi c0_i32_1859 v1633
  v1634.toNat
def k0_dev46 (d0 : Dev nD) : Nat :=
  let c0_i32_1873 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1872 : BitVec 32 := 1#32
  let v1637 : BitVec 32 := Scalar.muli v25 c1_i32_1872
  let v1638 : BitVec 32 := Scalar.addi c0_i32_1873 v1637
  v1638.toNat
def k0_dev47 (d0 : Dev nD) : Nat :=
  let c0_i32_1929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1928 : BitVec 32 := 1#32
  let v1689 : BitVec 32 := Scalar.muli v25 c1_i32_1928
  let v1690 : BitVec 32 := Scalar.addi c0_i32_1929 v1689
  v1690.toNat
def k0_dev48 (d0 : Dev nD) : Nat :=
  let c0_i32_1943 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1942 : BitVec 32 := 1#32
  let v1693 : BitVec 32 := Scalar.muli v13 c1_i32_1942
  let v1694 : BitVec 32 := Scalar.addi c0_i32_1943 v1693
  v1694.toNat
def k0_dev49 (d0 : Dev nD) : Nat :=
  let c0_i32_2000 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1999 : BitVec 32 := 1#32
  let v1745 : BitVec 32 := Scalar.muli v13 c1_i32_1999
  let v1746 : BitVec 32 := Scalar.addi c0_i32_2000 v1745
  v1746.toNat
def k0_dev50 (d0 : Dev nD) : Nat :=
  let c0_i32_2014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2013 : BitVec 32 := 1#32
  let v1749 : BitVec 32 := Scalar.muli v25 c1_i32_2013
  let v1750 : BitVec 32 := Scalar.addi c0_i32_2014 v1749
  v1750.toNat
def k0_dev51 (d0 : Dev nD) : Nat :=
  let c0_i32_2070 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2069 : BitVec 32 := 1#32
  let v1801 : BitVec 32 := Scalar.muli v25 c1_i32_2069
  let v1802 : BitVec 32 := Scalar.addi c0_i32_2070 v1801
  v1802.toNat
def k0_dev52 (d0 : Dev nD) : Nat :=
  let c0_i32_2084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2083 : BitVec 32 := 1#32
  let v1805 : BitVec 32 := Scalar.muli v13 c1_i32_2083
  let v1806 : BitVec 32 := Scalar.addi c0_i32_2084 v1805
  v1806.toNat
def k0_dev53 (d0 : Dev nD) : Nat :=
  let c0_i32_2141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2140 : BitVec 32 := 1#32
  let v1857 : BitVec 32 := Scalar.muli v13 c1_i32_2140
  let v1858 : BitVec 32 := Scalar.addi c0_i32_2141 v1857
  v1858.toNat
def k0_dev54 (d0 : Dev nD) : Nat :=
  let c0_i32_2155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2154 : BitVec 32 := 1#32
  let v1861 : BitVec 32 := Scalar.muli v25 c1_i32_2154
  let v1862 : BitVec 32 := Scalar.addi c0_i32_2155 v1861
  v1862.toNat
def k0_dev55 (d0 : Dev nD) : Nat :=
  let c0_i32_2211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2210 : BitVec 32 := 1#32
  let v1913 : BitVec 32 := Scalar.muli v25 c1_i32_2210
  let v1914 : BitVec 32 := Scalar.addi c0_i32_2211 v1913
  v1914.toNat
def k0_dev56 (d0 : Dev nD) : Nat :=
  let c0_i32_2225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2224 : BitVec 32 := 1#32
  let v1917 : BitVec 32 := Scalar.muli v13 c1_i32_2224
  let v1918 : BitVec 32 := Scalar.addi c0_i32_2225 v1917
  v1918.toNat
def k0_dev57 (d0 : Dev nD) : Nat :=
  let c0_i32_2282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2281 : BitVec 32 := 1#32
  let v1969 : BitVec 32 := Scalar.muli v13 c1_i32_2281
  let v1970 : BitVec 32 := Scalar.addi c0_i32_2282 v1969
  v1970.toNat
def k0_dev58 (d0 : Dev nD) : Nat :=
  let c0_i32_2296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2295 : BitVec 32 := 1#32
  let v1973 : BitVec 32 := Scalar.muli v25 c1_i32_2295
  let v1974 : BitVec 32 := Scalar.addi c0_i32_2296 v1973
  v1974.toNat
def k0_dev59 (d0 : Dev nD) : Nat :=
  let c0_i32_2353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2352 : BitVec 32 := 1#32
  let v2025 : BitVec 32 := Scalar.muli v25 c1_i32_2352
  let v2026 : BitVec 32 := Scalar.addi c0_i32_2353 v2025
  v2026.toNat
def k0_dev60 (d0 : Dev nD) : Nat :=
  let c0_i32_2367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2366 : BitVec 32 := 1#32
  let v2029 : BitVec 32 := Scalar.muli v13 c1_i32_2366
  let v2030 : BitVec 32 := Scalar.addi c0_i32_2367 v2029
  v2030.toNat
def k0_dev61 (d0 : Dev nD) : Nat :=
  let c0_i32_2424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2423 : BitVec 32 := 1#32
  let v2081 : BitVec 32 := Scalar.muli v13 c1_i32_2423
  let v2082 : BitVec 32 := Scalar.addi c0_i32_2424 v2081
  v2082.toNat
def k0_dev62 (d0 : Dev nD) : Nat :=
  let c0_i32_2438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2437 : BitVec 32 := 1#32
  let v2085 : BitVec 32 := Scalar.muli v25 c1_i32_2437
  let v2086 : BitVec 32 := Scalar.addi c0_i32_2438 v2085
  v2086.toNat
def k0_dev63 (d0 : Dev nD) : Nat :=
  let c0_i32_2495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2494 : BitVec 32 := 1#32
  let v2137 : BitVec 32 := Scalar.muli v25 c1_i32_2494
  let v2138 : BitVec 32 := Scalar.addi c0_i32_2495 v2137
  v2138.toNat
def k0_dev64 (d0 : Dev nD) : Nat :=
  let c0_i32_2509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2508 : BitVec 32 := 1#32
  let v2141 : BitVec 32 := Scalar.muli v13 c1_i32_2508
  let v2142 : BitVec 32 := Scalar.addi c0_i32_2509 v2141
  v2142.toNat
def k0_dev65 (d0 : Dev nD) : Nat :=
  let c0_i32_2566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2565 : BitVec 32 := 1#32
  let v2193 : BitVec 32 := Scalar.muli v13 c1_i32_2565
  let v2194 : BitVec 32 := Scalar.addi c0_i32_2566 v2193
  v2194.toNat
def k0_dev66 (d0 : Dev nD) : Nat :=
  let c0_i32_2580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2579 : BitVec 32 := 1#32
  let v2197 : BitVec 32 := Scalar.muli v25 c1_i32_2579
  let v2198 : BitVec 32 := Scalar.addi c0_i32_2580 v2197
  v2198.toNat
def k0_dev67 (d0 : Dev nD) : Nat :=
  let c0_i32_2637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2636 : BitVec 32 := 1#32
  let v2249 : BitVec 32 := Scalar.muli v25 c1_i32_2636
  let v2250 : BitVec 32 := Scalar.addi c0_i32_2637 v2249
  v2250.toNat
def k0_dev68 (d0 : Dev nD) : Nat :=
  let c0_i32_2651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2650 : BitVec 32 := 1#32
  let v2253 : BitVec 32 := Scalar.muli v13 c1_i32_2650
  let v2254 : BitVec 32 := Scalar.addi c0_i32_2651 v2253
  v2254.toNat
def k0_dev69 (d0 : Dev nD) : Nat :=
  let c0_i32_2708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2707 : BitVec 32 := 1#32
  let v2305 : BitVec 32 := Scalar.muli v13 c1_i32_2707
  let v2306 : BitVec 32 := Scalar.addi c0_i32_2708 v2305
  v2306.toNat
def k0_dev70 (d0 : Dev nD) : Nat :=
  let c0_i32_2722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2721 : BitVec 32 := 1#32
  let v2309 : BitVec 32 := Scalar.muli v25 c1_i32_2721
  let v2310 : BitVec 32 := Scalar.addi c0_i32_2722 v2309
  v2310.toNat
def k0_dev71 (d0 : Dev nD) : Nat :=
  let c0_i32_2779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2778 : BitVec 32 := 1#32
  let v2361 : BitVec 32 := Scalar.muli v25 c1_i32_2778
  let v2362 : BitVec 32 := Scalar.addi c0_i32_2779 v2361
  v2362.toNat
def k0_dev72 (d0 : Dev nD) : Nat :=
  let c0_i32_2793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2792 : BitVec 32 := 1#32
  let v2365 : BitVec 32 := Scalar.muli v13 c1_i32_2792
  let v2366 : BitVec 32 := Scalar.addi c0_i32_2793 v2365
  v2366.toNat
def k0_dev73 (d0 : Dev nD) : Nat :=
  let c0_i32_2850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2849 : BitVec 32 := 1#32
  let v2417 : BitVec 32 := Scalar.muli v13 c1_i32_2849
  let v2418 : BitVec 32 := Scalar.addi c0_i32_2850 v2417
  v2418.toNat
def k0_dev74 (d0 : Dev nD) : Nat :=
  let c0_i32_2864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2863 : BitVec 32 := 1#32
  let v2421 : BitVec 32 := Scalar.muli v25 c1_i32_2863
  let v2422 : BitVec 32 := Scalar.addi c0_i32_2864 v2421
  v2422.toNat
def k0_dev75 (d0 : Dev nD) : Nat :=
  let c0_i32_2930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2929 : BitVec 32 := 1#32
  let v2473 : BitVec 32 := Scalar.muli v13 c1_i32_2929
  let v2474 : BitVec 32 := Scalar.addi c0_i32_2930 v2473
  v2474.toNat
def k0_dev76 (d0 : Dev nD) : Nat :=
  let c0_i32_2996 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2995 : BitVec 32 := 1#32
  let v2525 : BitVec 32 := Scalar.muli v25 c1_i32_2995
  let v2526 : BitVec 32 := Scalar.addi c0_i32_2996 v2525
  v2526.toNat
def k0_dev77 (d0 : Dev nD) : Nat :=
  let c0_i32_3062 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3061 : BitVec 32 := 1#32
  let v2577 : BitVec 32 := Scalar.muli v13 c1_i32_3061
  let v2578 : BitVec 32 := Scalar.addi c0_i32_3062 v2577
  v2578.toNat
def k0_dev78 (d0 : Dev nD) : Nat :=
  let c0_i32_3128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3127 : BitVec 32 := 1#32
  let v2629 : BitVec 32 := Scalar.muli v25 c1_i32_3127
  let v2630 : BitVec 32 := Scalar.addi c0_i32_3128 v2629
  v2630.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_3133 : BitVec 32 := 1024#32
  let v2639 : BitVec 32 := Scalar.muli v2 c1024_i32_3133
  let v2640 : Index := Scalar.indexCast v2639
  let c0_3134 : Index := 0#32
  ![v2640.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.Steps.lean ====
/- The kernel's body as a few step programs.

   The printed body runs 620 memory operations in a straight line.  They are sixteen rounds of the
   same five steps: bring a tile of the weights in and round it (`finish`), build a message of one
   direction and send it (`send`), and build a tile of the result and write it out (`outTile`).
   This module writes each step once, over the direction `d` (`0`: to the next device, `1`: to the
   previous one) and the number of the message or tile, and proves that the printed body is these
   steps in a row (`body_eq`). -/
module

public import proofs.«01_k».proof.Proof.Gen.KernelIdeal
public import proofs.«01_k».proof.Proof.Gen.KernelIdeal.Skeleton

@[expose] public section

noncomputable section

namespace Cert.RingProof

open Cert.KernelIdeal Cert.KernelIdeal.Gen
open Idealize.ShloMosaic Idealize.SL.Sem

variable {F : FTy → Type} [FloatOps F]

/-! ## The buffers -/

/-- The local shard of the weights; -/
abbrev wM : Memref sig .tc .hbm S1024x8192 .f32 := Memref.whole main_arg1
/-- the result; -/
abbrev oM : Memref sig .tc .hbm S1024x8192 .f32 := Memref.whole main_v1
/-- the messages being built, two slots per direction; -/
abbrev aM : Memref sig .tc .vmem S2x2x1024x512 .bf16 := Memref.whole cc0_scratch0
/-- the messages received, ten slots per direction; -/
abbrev rM : Memref sig .tc .vmem S2x10x1024x512 .bf16 := Memref.whole cc0_scratch1
/-- the rounded weights; -/
abbrev bM : Memref sig .tc .vmem S1024x8192 .bf16 := Memref.whole cc0_scratch2
/-- the stage that the weights pass, two slots; -/
abbrev gM : Memref sig .tc .vmem S2x1024x512 .f32 := Memref.whole cc0_scratch3
/-- the stage that the results pass, two slots. -/
abbrev uM : Memref sig .tc .vmem S2x1024x512 .f32 := Memref.whole cc0_scratch4

/-! ## Rectangles of the buffers -/

/-- The first column of tile `t` of direction `d`. -/
abbrev col (d t : ℕ) : ℕ := d % 2 * 4096 + t % 8 * 512

/-- A tile lies inside the matrix; -/
theorem inb_tile (d t : ℕ) : ∀ a, (![0, col d t] : Fin 2 → Nat) a + S1024x512.size a ≤ S1024x8192.size a := by
  have hd := Nat.mod_lt d (show 2 > 0 by decide)
  have ht := Nat.mod_lt t (show 8 > 0 by decide)
  intro a
  match a with
  | ⟨0, _⟩ => show 0 + 1024 ≤ 1024; omega
  | ⟨1, _⟩ => show d % 2 * 4096 + t % 8 * 512 + 512 ≤ 8192; omega

/-- a slot of the sender inside its buffer; -/
theorem inb_a (d p : ℕ) : ∀ a, (![d % 2, p % 2, 0, 0] : Fin 4 → Nat) a + S1x1x1024x512.size a ≤ S2x2x1024x512.size a := by
  have hd := Nat.mod_lt d (show 2 > 0 by decide)
  have ht := Nat.mod_lt p (show 2 > 0 by decide)
  intro a
  match a with
  | ⟨0, _⟩ => show d % 2 + 1 ≤ 2; omega
  | ⟨1, _⟩ => show p % 2 + 1 ≤ 2; omega
  | ⟨2, _⟩ => show 0 + 1024 ≤ 1024; omega
  | ⟨3, _⟩ => show 0 + 512 ≤ 512; omega

/-- a slot of the receiver inside its buffer; -/
theorem inb_r (d q : ℕ) : ∀ a, (![d % 2, q % 10, 0, 0] : Fin 4 → Nat) a + S1x1x1024x512.size a ≤ S2x10x1024x512.size a := by
  have hd := Nat.mod_lt d (show 2 > 0 by decide)
  have ht := Nat.mod_lt q (show 10 > 0 by decide)
  intro a
  match a with
  | ⟨0, _⟩ => show d % 2 + 1 ≤ 2; omega
  | ⟨1, _⟩ => show q % 10 + 1 ≤ 10; omega
  | ⟨2, _⟩ => show 0 + 1024 ≤ 1024; omega
  | ⟨3, _⟩ => show 0 + 512 ≤ 512; omega

/-- a slot of a stage inside the stage; -/
theorem inb_g (d : ℕ) : ∀ a, (![d % 2, 0, 0] : Fin 3 → Nat) a + S1x1024x512.size a ≤ S2x1024x512.size a := by
  have hd := Nat.mod_lt d (show 2 > 0 by decide)
  intro a
  match a with
  | ⟨0, _⟩ => show d % 2 + 1 ≤ 2; omega
  | ⟨1, _⟩ => show 0 + 1024 ≤ 1024; omega
  | ⟨2, _⟩ => show 0 + 512 ≤ 512; omega

/-- a send semaphore inside its array; -/
theorem inb_s22 (d p : ℕ) : ∀ a, (![d % 2, p % 2] : Fin 2 → Nat) a + S1x1.size a ≤ S2x2.size a := by
  have hd := Nat.mod_lt d (show 2 > 0 by decide)
  have ht := Nat.mod_lt p (show 2 > 0 by decide)
  intro a
  match a with
  | ⟨0, _⟩ => show d % 2 + 1 ≤ 2; omega
  | ⟨1, _⟩ => show p % 2 + 1 ≤ 2; omega

/-- a receive semaphore or a credit inside its array; -/
theorem inb_s210 (d q : ℕ) : ∀ a, (![d % 2, q % 10] : Fin 2 → Nat) a + S1x1.size a ≤ S2x10.size a := by
  have hd := Nat.mod_lt d (show 2 > 0 by decide)
  have ht := Nat.mod_lt q (show 10 > 0 by decide)
  intro a
  match a with
  | ⟨0, _⟩ => show d % 2 + 1 ≤ 2; omega
  | ⟨1, _⟩ => show q % 10 + 1 ≤ 10; omega

/-- a stage's semaphore inside its array. -/
theorem inb_s2 (d : ℕ) : ∀ a, (![d % 2] : Fin 1 → Nat) a + S1.size a ≤ S2.size a := by
  have hd := Nat.mod_lt d (show 2 > 0 by decide)
  intro a
  match a with
  | ⟨0, _⟩ => show d % 2 + 1 ≤ 2; omega

/-- Tile `t` of direction `d` of an array of the weights' shape. -/
abbrev tileR (d t : ℕ) : Rect S1024x8192 := Rect.unit (s := S1024x8192) ![0, col d t] S1024x512.size (inb_tile d t)
/-- Slot `p` of direction `d` of the messages being built. -/
abbrev aR (d p : ℕ) : Rect S2x2x1024x512 := Rect.unit (s := S2x2x1024x512) ![d % 2, p % 2, 0, 0] S1x1x1024x512.size (inb_a d p)
/-- Slot `q` of direction `d` of the messages received. -/
abbrev rR (d q : ℕ) : Rect S2x10x1024x512 := Rect.unit (s := S2x10x1024x512) ![d % 2, q % 10, 0, 0] S1x1x1024x512.size (inb_r d q)
/-- Slot `d` of a stage. -/
abbrev gR (d : ℕ) : Rect S2x1024x512 := Rect.unit (s := S2x1024x512) ![d % 2, 0, 0] S1x1024x512.size (inb_g d)

/-- A slot of the sender is made of whole words; -/
theorem words_a (d p : ℕ) : (aR d p).WholeWords (EltTy.packing .bf16) := by
  have h : ∀ i j : Fin 2, ∀ hb, (Rect.unit (s := S2x2x1024x512) ![i.val, j.val, 0, 0] S1x1x1024x512.size hb).WholeWords (EltTy.packing .bf16) := by
    decide +kernel
  exact h ⟨d % 2, Nat.mod_lt _ (by decide)⟩ ⟨p % 2, Nat.mod_lt _ (by decide)⟩ _

/-- so is a slot of the receiver. -/
theorem words_r (d q : ℕ) : (rR d q).WholeWords (EltTy.packing .bf16) := by
  have h : ∀ i : Fin 2, ∀ j : Fin 10, ∀ hb, (Rect.unit (s := S2x10x1024x512) ![i.val, j.val, 0, 0] S1x1x1024x512.size hb).WholeWords (EltTy.packing .bf16) := by
    decide +kernel
  exact h ⟨d % 2, Nat.mod_lt _ (by decide)⟩ ⟨q % 10, Nat.mod_lt _ (by decide)⟩ _

/-- The rows of a slot of the sender are packed, -/
theorem packed_a (d p : ℕ) : (aR d p).PackedRows (EltTy.packing .bf16) := by
  have h : ∀ i j : Fin 2, ∀ hb, (Rect.unit (s := S2x2x1024x512) ![i.val, j.val, 0, 0] S1x1x1024x512.size hb).PackedRows (EltTy.packing .bf16) := by
    decide +kernel
  exact h ⟨d % 2, Nat.mod_lt _ (by decide)⟩ ⟨p % 2, Nat.mod_lt _ (by decide)⟩ _

/-- and so are those of a tile of the rounded weights. -/
theorem packed_b (d t : ℕ) : (tileR d t).PackedRows (EltTy.packing .bf16) := by
  have h : ∀ i : Fin 2, ∀ j : Fin 8, ∀ hb, (Rect.unit (s := S1024x8192) ![0, i.val * 4096 + j.val * 512] S1024x512.size hb).PackedRows (EltTy.packing .bf16) := by
    decide +kernel
  exact h ⟨d % 2, Nat.mod_lt _ (by decide)⟩ ⟨t % 8, Nat.mod_lt _ (by decide)⟩ _

/-- Tile `t` of direction `d` of the weights; -/
abbrev wV (d t : ℕ) : Memref sig .tc .hbm S1024x512 .f32 := wM.slice (tileR d t) (fun _ => rfl)
/-- of the result; -/
abbrev oV (d t : ℕ) : Memref sig .tc .hbm S1024x512 .f32 := oM.slice (tileR d t) (fun _ => rfl)
/-- the slots as transfers take them. -/
abbrev aV (d p : ℕ) : Memref sig .tc .vmem S1024x512 .bf16 := (aM.slice (aR d p) (fun _ => rfl)).squeeze S1024x512 squeezes_S1x1x1024x512_S1024x512
/-- A slot of the receiver; -/
abbrev rV (d q : ℕ) : Memref sig .tc .vmem S1024x512 .bf16 := (rM.slice (rR d q) (fun _ => rfl)).squeeze S1024x512 squeezes_S1x1x1024x512_S1024x512
/-- of the stage of the weights; -/
abbrev gV (d : ℕ) : Memref sig .tc .vmem S1024x512 .f32 := (gM.slice (gR d) (fun _ => rfl)).squeeze S1024x512 squeezes_S1x1024x512_S1024x512
/-- of the stage of the results. -/
abbrev uV (d : ℕ) : Memref sig .tc .vmem S1024x512 .f32 := (uM.slice (gR d) (fun _ => rfl)).squeeze S1024x512 squeezes_S1x1024x512_S1024x512

/-! ## Semaphores -/

/-- The semaphore that the copy out of slot `p` of direction `d` pays; -/
abbrev sendS (d p : ℕ) : DmaSem sig := ((cc0_scratch5.slice (Rect.unit (s := S2x2) ![d % 2, p % 2] S1x1.size (inb_s22 d p))).squeeze S_ squeezes_S1x1_S_).sem
/-- the one that the copy into slot `q` pays, on the receiving device; -/
abbrev recvS (d q : ℕ) : DmaSem sig := ((cc0_scratch6.slice (Rect.unit (s := S2x10) ![d % 2, q % 10] S1x1.size (inb_s210 d q))).squeeze S_ squeezes_S1x1_S_).sem
/-- the one that says slot `q` of the receiver may be written again; -/
abbrev credS (d q : ℕ) : Sem sig := ((cc0_scratch7.slice (Rect.unit (s := S2x10) ![d % 2, q % 10] S1x1.size (inb_s210 d q))).squeeze S_ squeezes_S1x1_S_).sem
/-- the ones of the copies through the two stages; -/
abbrev wdS (d : ℕ) : DmaSem sig := ((cc0_scratch8.slice (Rect.unit (s := S2) ![d % 2] S1.size (inb_s2 d))).squeeze S_ squeezes_S1_S_).sem
/-- The semaphore of the copy out of the results' stage. -/
abbrev odS (d : ℕ) : DmaSem sig := ((cc0_scratch9.slice (Rect.unit (s := S2) ![d % 2] S1.size (inb_s2 d))).squeeze S_ squeezes_S1_S_).sem
/-- the barrier. -/
abbrev barS : Sem sig := (SemArray.scalar (sig.barrier 0 rfl) : Sems sig S_).sem

/-! ## Devices -/

/-- The next device around the ring, as the kernel computes it; -/
abbrev rightD (c : Dev nD) : Dev nD := ⟨k0_dev2 c, k0_dev2_lt c⟩
/-- the previous one. -/
abbrev leftD (c : Dev nD) : Dev nD := ⟨k0_dev1 c, k0_dev1_lt c⟩
/-- Where the messages of direction `d` go; -/
abbrev tgtD (d : ℕ) (c : Dev nD) : Dev nD := cond (Nat.beq (d % 2) 0) (rightD c) (leftD c)
/-- where they come from. -/
abbrev srcD (d : ℕ) (c : Dev nD) : Dev nD := cond (Nat.beq (d % 2) 0) (leftD c) (rightD c)

/-- The corner of the rows that message `m` of direction `d` is about. -/
abbrev xOff (d m : ℕ) (c : Dev nD) : Fin 2 → Nat :=
  cond (Nat.beq (d % 2) 0) (k0_off1 c (BitVec.ofNat 32 (m / 8 % 3))) (k0_off2 c (BitVec.ofNat 32 (m / 8 % 3)))

/-- The rows that a message is about lie inside the input. -/
theorem xOff_inb (d m : ℕ) (c : Dev nD) : ∀ a, xOff d m c a + S1024x1024.size a ≤ S4096x1024.size a := by
  unfold xOff
  cases Nat.beq (d % 2) 0
  · exact k0_off2_inb c ⟨m / 8 % 3, Nat.mod_lt _ (by decide)⟩
  · exact k0_off1_inb c ⟨m / 8 % 3, Nat.mod_lt _ (by decide)⟩

/-- Those rows of `x`; -/
abbrev xR (d m : ℕ) (c : Dev nD) : Rect S4096x1024 := Rect.unit (s := S4096x1024) (xOff d m c) S1024x1024.size (xOff_inb d m c)
/-- and the rows of device `c` itself. -/
abbrev xR₀ (c : Dev nD) : Rect S4096x1024 := Rect.unit (s := S4096x1024) (k0_off3 c) S1024x1024.size (k0_off3_inb c)

/-! ## Values -/

/-- A tile of the weights, rounded. -/
def payW (v : Vec F S1x1024x512 .f32) : FVec F S1024x512 .bf16 :=
  shapeCast S1024x512 (truncf .bf16 (shapeCast S1024x512 v shapeCasts_S1x1024x512_S1024x512) bitsLt_bf16_f32) shapeCasts_S1024x512_S1024x512
/-- The product of a block of rows and a tile of the weights. -/
def prod (x : Vec F S1024x1024 .bf16) (w : Vec F S1024x512 .bf16) : FVec F S1024x512 .f32 :=
  matmul dot_S1024x1024_S1024x512_S1024x512_1_0_0_1_n_n none (shapeCast S1024x1024 x shapeCasts_S1024x1024_S1024x1024) w (constant S1024x512 .f32 0x00000000#32)
/-- What is added to it: a received message. -/
def accum (p : FVec F S1024x512 .f32) (r : Vec F S1x1x1024x512 .bf16) : FVec F S1024x512 .f32 :=
  addf p (extf .f32 (shapeCast S1024x512 r shapeCasts_S1x1x1024x512_S1024x512) bitsLt_bf16_f32)
/-- A message. -/
def payA (p : FVec F S1024x512 .f32) : FVec F S1x1x1024x512 .bf16 :=
  shapeCast S1x1x1024x512 (truncf .bf16 p bitsLt_bf16_f32) shapeCasts_S1024x512_S1x1x1024x512
/-- The epilogue. -/
def silu (y : FVec F S1024x512 .f32) : FVec F S1024x512 .f32 :=
  divf y (addf (broadcast S1024x512 (Scalar.ofBits .f32 0x3F800000#32)) (exp (subf (broadcast S1024x512 (Scalar.ofBits .f32 0x00000000#32))
    (minimumf (broadcast S1024x512 (Scalar.ofBits .f32 0x42700000#32)) (maximumf (broadcast S1024x512 (Scalar.ofBits .f32 0xC2700000#32)) y)))))
/-- A tile of the result. -/
def payO (y : FVec F S1024x512 .f32) : FVec F S1x1024x512 .f32 :=
  shapeCast S1x1024x512 (silu y) shapeCasts_S1024x512_S1x1024x512

/-! ## Steps -/

/-- The kernel's programs. -/
abbrev PR (F : FTy → Type) (α : Type) := Prog (TpuEff nD τ sig (Elt F) Λ₀ .tc) α

/-- Run `p` where `b` holds. -/
abbrev whenB (b : Bool) (p : PR F PUnit) : PR F PUnit := cond b p (pure ⟨⟩)

/-- Bring tile `t` of direction `d` of the weights to its stage. -/
def start (d t : ℕ) : PR F PUnit :=
  Prog.lift (.enqueueDma (wV d t) (.here (gV d)) (.dma (wdS d)) (View.wordExact_bits rfl) ((View.wordExact_bits rfl).reshape _ _) ⟨Or.inl rfl, trivial⟩)

/-- Wait for it and round it into place; then bring the next one. -/
def finish (d t : ℕ) : PR F PUnit := do
  Prog.lift (.waitDma2 (wdS d) (wV d t) (gV d) (View.wordExact_bits rfl) ((View.wordExact_bits rfl).reshape _ _))
  let v : Vec F S1x1024x512 .f32 ← Prog.lift (.load gM (gR d).toLoadRect (View.loadsAt_vmem h_S1x1024x512))
  let _ : Vec F S1024x512 .bf16 ← Prog.lift (.load bM (tileR d t).toLoadRect (View.loadsAt_vmem h_S1024x512))
  Prog.lift (.store bM (tileR d t) (payW v) Finset.univ (View.stores_vmem h_S1024x512 ((Memref.isWhole_whole cc0_scratch2).storeExact_slice rfl _ (packed_b d t)) (fun _ => rfl)) (.inl rfl))
  whenB (Nat.ble (t + 1) 7) (start d (t + 1))

/-- Tell both neighbours that this device has begun, and wait for both to say so. -/
def barrier (c : Dev nD) : PR F PUnit := do
  semSignalWord (leftD c) barS 1#32
  semSignalWord (rightD c) barS 1#32
  semWaitWord barS 2#32

/-- Wait until message `m` of direction `d` has come in. -/
def waitRecv (d m : ℕ) : PR F PUnit :=
  Prog.lift (.waitDma2 (recvS d m) (aV d m) (rV d m) (((Memref.isWhole_whole cc0_scratch0).wordExact_slice rfl _ (words_a d m)).reshape _ _) (((Memref.isWhole_whole cc0_scratch1).wordExact_slice rfl _ (words_r d m)).reshape _ _))

/-- Wait until message `m` of direction `d` has been read off its slot here. -/
def waitSend (d m : ℕ) : PR F PUnit :=
  Prog.lift (.waitDma2 (sendS d m) (rV d m) (aV d m) (((Memref.isWhole_whole cc0_scratch1).wordExact_slice rfl _ (words_r d m)).reshape _ _) (((Memref.isWhole_whole cc0_scratch0).wordExact_slice rfl _ (words_a d m)).reshape _ _))

/-- Store message `m` of direction `d`: the product, to which from message 8 on the message eight
    before is added. -/
def build (d m : ℕ) (p : FVec F S1024x512 .f32) : PR F PUnit :=
  cond (Nat.ble 8 m)
    (do
      let r : Vec F S1x1x1024x512 .bf16 ← Prog.lift (.load rM (rR d (m - 8)).toLoadRect (View.loadsAt_vmem h_S1x1x1024x512))
      let _ : Vec F S1x1x1024x512 .bf16 ← Prog.lift (.load aM (aR d m).toLoadRect (View.loadsAt_vmem h_S1x1x1024x512))
      Prog.lift (.store aM (aR d m) (payA (accum p r)) Finset.univ (View.stores_vmem h_S1x1x1024x512 ((Memref.isWhole_whole cc0_scratch0).storeExact_slice rfl _ (packed_a d m)) (fun _ => rfl)) (.inl rfl)))
    (do
      let _ : Vec F S1x1x1024x512 .bf16 ← Prog.lift (.load aM (aR d m).toLoadRect (View.loadsAt_vmem h_S1x1x1024x512))
      Prog.lift (.store aM (aR d m) (payA p) Finset.univ (View.stores_vmem h_S1x1x1024x512 ((Memref.isWhole_whole cc0_scratch0).storeExact_slice rfl _ (packed_a d m)) (fun _ => rfl)) (.inl rfl)))

/-- Copy message `m` of direction `d` to the next device of that direction. -/
def post (c : Dev nD) (d m : ℕ) : PR F PUnit :=
  Prog.lift (.enqueueDma (aV d m) (.remote (Dev.tc (tgtD d c)) (rV d m) (.dma (sendS d m))) (.dma (recvS d m))
    (((Memref.isWhole_whole cc0_scratch0).wordExact_slice rfl _ (words_a d m)).reshape _ _) (((Memref.isWhole_whole cc0_scratch1).wordExact_slice rfl _ (words_r d m)).reshape _ _) ⟨⟨rfl, Or.inl rfl⟩, trivial⟩)

/-- Build message `m` of direction `d` and send it. -/
def send (xM : Memref sig .tc .vmem S4096x1024 .bf16) (c : Dev nD) (d m : ℕ) : PR F PUnit := do
  let x : Vec F S1024x1024 .bf16 ← Prog.lift (.load xM (xR d m c).toLoadRect (View.loadsAt_vmem h_S1024x1024))
  let w : Vec F S1024x512 .bf16 ← Prog.lift (.load bM (tileR d m).toLoadRect (View.loadsAt_vmem h_S1024x512))
  whenB (Nat.ble 8 m) (waitRecv d (m - 8))
  whenB (Nat.ble 2 m) (waitSend d (m - 2))
  build d m (prod x w)
  whenB (Nat.ble 8 m && Nat.ble m 21) (semSignalWord (srcD d c) (credS d (m - 8)) 1#32)
  whenB (Nat.ble 10 m) (semWaitWord (credS d m) 1#32)
  post c d m

/-- Wait until tile `t` of direction `d` of the result has been written out. -/
def waitOut (d t : ℕ) : PR F PUnit :=
  Prog.lift (.waitDma2 (odS d) (uV d) (oV d t) ((View.wordExact_bits rfl).reshape _ _) (View.wordExact_bits rfl))

/-- Build tile `t` of direction `d` of the result and write it out. -/
def outTile (xM : Memref sig .tc .vmem S4096x1024 .bf16) (c : Dev nD) (d t : ℕ) : PR F PUnit := do
  let x : Vec F S1024x1024 .bf16 ← Prog.lift (.load xM (xR₀ c).toLoadRect (View.loadsAt_vmem h_S1024x1024))
  let w : Vec F S1024x512 .bf16 ← Prog.lift (.load bM (tileR d t).toLoadRect (View.loadsAt_vmem h_S1024x512))
  waitRecv d (16 + t)
  let r : Vec F S1x1x1024x512 .bf16 ← Prog.lift (.load rM (rR d (16 + t)).toLoadRect (View.loadsAt_vmem h_S1x1x1024x512))
  whenB (Nat.ble 1 t) (waitOut d (t - 1))
  let _ : Vec F S1x1024x512 .f32 ← Prog.lift (.load uM (gR d).toLoadRect (View.loadsAt_vmem h_S1x1024x512))
  Prog.lift (.store uM (gR d) (payO (accum (prod x w) r)) Finset.univ (View.stores_vmem_bits_univ h_S1x1024x512 rfl) (.inl rfl))
  Prog.lift (.enqueueDma (uV d) (.here (oV d t)) (.dma (odS d)) ((View.wordExact_bits rfl).reshape _ _) (View.wordExact_bits rfl) ⟨Or.inl rfl, trivial⟩)

/-- `n` rounds of `f`, from number `k` on. -/
def rounds (f : ℕ → PR F PUnit) : ℕ → ℕ → PR F PUnit
  | _, 0 => pure ⟨⟩
  | k, n + 1 => do f k; rounds f (k + 1) n

/-- The first eight rounds: both tiles of the weights, then both messages; -/
def roundA (xM : Memref sig .tc .vmem S4096x1024 .bf16) (c : Dev nD) (m : ℕ) : PR F PUnit := do
  finish 0 m; finish 1 m; send xM c 0 m; send xM c 1 m
/-- the next sixteen: both messages; -/
def roundB (xM : Memref sig .tc .vmem S4096x1024 .bf16) (c : Dev nD) (m : ℕ) : PR F PUnit := do
  send xM c 0 m; send xM c 1 m
/-- the last eight: both tiles of the result. -/
def roundC (xM : Memref sig .tc .vmem S4096x1024 .bf16) (c : Dev nD) (t : ℕ) : PR F PUnit := do
  outTile xM c 0 t; outTile xM c 1 t

/-- The last waits. -/
def tailWaits : PR F PUnit := do
  waitOut 0 7; waitOut 1 7
  waitSend 0 22; waitSend 0 23; waitSend 1 22; waitSend 1 23

/-- The whole body. -/
def steps (xM : Memref sig .tc .vmem S4096x1024 .bf16) : PR F PUnit := do
  let c : Dev nD ← Prog.lift .deviceId
  start 0 0; start 1 0
  barrier c
  rounds (roundA xM c) 0 8
  rounds (roundB xM c) 8 16
  rounds (roundC xM c) 0 8
  tailWaits

/-- Two programs that begin with the same operation and go on alike are the same. -/
theorem peel {α β : Type} {e : TpuEff nD τ sig (Elt F) Λ₀ .tc β} {k k' : β → PR F α} (h : ∀ x, k x = k' x) :
    Prog.op e k = Prog.op e k' := congrArg _ (funext h)

set_option maxRecDepth 100000 in
set_option maxHeartbeats 4000000 in
/-- The printed body is these steps. -/
theorem body_eq (xM : Memref sig .tc .vmem S4096x1024 .bf16) (hx : xM.IsWhole) :
    cc0_body (F := F) xM hx wM (Memref.isWhole_whole _) oM (Memref.isWhole_whole _) aM (Memref.isWhole_whole _) rM (Memref.isWhole_whole _) bM (Memref.isWhole_whole _)
      gM (Memref.isWhole_whole _) uM (Memref.isWhole_whole _) cc0_scratch5 cc0_scratch6 cc0_scratch7 cc0_scratch8 cc0_scratch9 = steps xM := by
  repeat refine peel fun _ => ?_
  rfl

end Cert.RingProof

end
-- ==== Proof.Protocol.lean ====
/- The protocol by which the four devices exchange messages, and what the messages hold.

   In each of the two directions every device sends 24 messages to its neighbour.  Message `m` is
   built in slot `m % 2` of the sender and lands in slot `m % 10` of the receiver.  Three families
   of semaphores carry the traffic: the send semaphores say that a slot of the sender has been
   read off, the receive semaphores that a message has landed, the credits that a slot of the
   receiver has been read and may be written again.  The first ten messages need no credit: the
   barrier at the beginning hands the neighbour's ten slots over.

   Every semaphore is a cell whose rounds have a duty each: the party that pays it lays a payload
   down, the party that waits takes it up.  `sched` says which. -/
module

public import proofs.«01_k».proof.Proof.Steps
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.TalkSites
public import Idealize.ShloMosaic.Lib.Pipeline.Value
public import Idealize.ShloMosaic.Lib.Transfers
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the kernel's cells, and the counters of its local copies. -/
abbrev UB : Type := URounds (GSem nD τ sig) Bool
/-- All the ghost state: the pipeline's, the rounds of the cells, the counters. -/
abbrev UU : Type := UR sig nD τ × (UB × Counters)

local notation "𝕄" => MT nD τ sig ℕ (Elt F) ℕ UU ℕ

/-- The pipeline's part of the ghost state in the machine's algebra. -/
abbrev EP : Emb (UR sig nD τ) (MT nD τ sig ℕ (Elt F) ℕ UU ℕ) := embL
/-- The rounds of the kernel's cells in the machine's algebra. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
/-- Updates of the rounds are updates of the ghost state. -/
instance ER_landsIn : (ER : Emb UB 𝕄).LandsIn (upEmb : UEmb _ 𝕄) := by unfold ER; infer_instance
/-- The counters. -/
abbrev EC : UEmb Counters (MT nD τ sig ℕ (Elt F) ℕ UU ℕ) := countersEmb

/-! ## Neighbours -/

/-- The device after the one before `c` is `c`; -/
theorem tgt_src (d : ℕ) (c : Dev nD) : tgtD d (srcD d c) = c := by
  have h : ∀ b : Bool, ∀ c : Dev nD, cond b (rightD (cond b (leftD c) (rightD c))) (leftD (cond b (leftD c) (rightD c))) = c := by decide +kernel
  exact h _ c
/-- and the one before the device after `c` is `c`. -/
theorem src_tgt (d : ℕ) (c : Dev nD) : srcD d (tgtD d c) = c := by
  have h : ∀ b : Bool, ∀ c : Dev nD, cond b (leftD (cond b (rightD c) (leftD c))) (rightD (cond b (rightD c) (leftD c))) = c := by decide +kernel
  exact h _ c

/-- The devices in the order of one direction. -/
def ringE (d : ℕ) : Dev nD ≃ Dev nD := ⟨tgtD d, srcD d, src_tgt d, tgt_src d⟩

/-! ## Semaphores by number -/

/-- The number of a send semaphore; -/
theorem sendS_eq (d p : ℕ) : sendS d p = ⟨1 + 2 * (d % 2) + p % 2, by show _ < 29; omega⟩ := by
  have h : ∀ i j : Fin 2, ∀ hb, ((cc0_scratch5.slice (Rect.unit (s := S2x2) ![i.val, j.val] S1x1.size hb)).squeeze S_ squeezes_S1x1_S_).sem.val = 1 + 2 * i.val + j.val := by
    decide +kernel
  exact Fin.ext (h ⟨d % 2, Nat.mod_lt _ (by decide)⟩ ⟨p % 2, Nat.mod_lt _ (by decide)⟩ _)
/-- of a receive semaphore; -/
theorem recvS_eq (d q : ℕ) : recvS d q = ⟨5 + 10 * (d % 2) + q % 10, by show _ < 29; omega⟩ := by
  have h : ∀ i : Fin 2, ∀ j : Fin 10, ∀ hb, ((cc0_scratch6.slice (Rect.unit (s := S2x10) ![i.val, j.val] S1x1.size hb)).squeeze S_ squeezes_S1x1_S_).sem.val = 5 + 10 * i.val + j.val := by
    decide +kernel
  exact Fin.ext (h ⟨d % 2, Nat.mod_lt _ (by decide)⟩ ⟨q % 10, Nat.mod_lt _ (by decide)⟩ _)
/-- of a credit; -/
theorem credS_eq (d q : ℕ) : credS d q = ⟨10 * (d % 2) + q % 10, by show _ < 21; omega⟩ := by
  have h : ∀ i : Fin 2, ∀ j : Fin 10, ∀ hb, ((cc0_scratch7.slice (Rect.unit (s := S2x10) ![i.val, j.val] S1x1.size hb)).squeeze S_ squeezes_S1x1_S_).sem.val = 10 * i.val + j.val := by
    decide +kernel
  exact Fin.ext (h ⟨d % 2, Nat.mod_lt _ (by decide)⟩ ⟨q % 10, Nat.mod_lt _ (by decide)⟩ _)
/-- of the semaphore of the weights' stage; -/
theorem wdS_eq (d : ℕ) : wdS d = ⟨25 + d % 2, by show _ < 29; omega⟩ := by
  have h : ∀ i : Fin 2, ∀ hb, ((cc0_scratch8.slice (Rect.unit (s := S2) ![i.val] S1.size hb)).squeeze S_ squeezes_S1_S_).sem.val = 25 + i.val := by
    decide +kernel
  exact Fin.ext (h ⟨d % 2, Nat.mod_lt _ (by decide)⟩ _)
/-- of the results' stage; -/
theorem odS_eq (d : ℕ) : odS d = ⟨27 + d % 2, by show _ < 29; omega⟩ := by
  have h : ∀ i : Fin 2, ∀ hb, ((cc0_scratch9.slice (Rect.unit (s := S2) ![i.val] S1.size hb)).squeeze S_ squeezes_S1_S_).sem.val = 27 + i.val := by
    decide +kernel
  exact Fin.ext (h ⟨d % 2, Nat.mod_lt _ (by decide)⟩ _)
/-- of the barrier. -/
theorem barS_eq : barS = ⟨20, by decide⟩ := by decide +kernel

/-- What a semaphore is for. -/
inductive Role where
  | send (d p : ℕ)
  | recv (d q : ℕ)
  | cred (d q : ℕ)
  | bar
  | local
deriving DecidableEq

/-- The role of each semaphore. -/
def role : SemLoc sig → Role
  | .dma q => if q.val = 0 then .local else if q.val < 5 then .send ((q.val - 1) / 2) ((q.val - 1) % 2)
      else if q.val < 25 then .recv ((q.val - 5) / 10) ((q.val - 5) % 10) else .local
  | .reg q => if q.val < 20 then .cred (q.val / 10) (q.val % 10) else .bar

/-- The send semaphores have the role of their direction and slot; -/
theorem role_send (d p : ℕ) : role (.dma (sendS d p)) = .send (d % 2) (p % 2) := by
  rw [sendS_eq]; dsimp only [role]
  rw [if_neg (by omega), if_pos (by omega)]
  congr 1 <;> omega
/-- so have the receive semaphores, -/
theorem role_recv (d q : ℕ) : role (.dma (recvS d q)) = .recv (d % 2) (q % 10) := by
  rw [recvS_eq]; dsimp only [role]
  rw [if_neg (by omega), if_neg (by omega), if_pos (by omega)]
  congr 1 <;> omega
/-- the credits -/
theorem role_cred (d q : ℕ) : role (.reg (credS d q)) = .cred (d % 2) (q % 10) := by
  rw [credS_eq]; dsimp only [role]
  rw [if_pos (by omega)]
  congr 1 <;> omega
/-- and the barrier. -/
theorem role_bar : role (.reg barS) = .bar := by
  rw [barS_eq]; rfl

/-! ## Cells -/

/-- The cell of a send semaphore of device `c`; -/
abbrev sendC (c : Dev nD) (d p : ℕ) : GSem nD τ sig := ((c : Thread nD τ), .dma (sendS d p))
/-- of a receive semaphore; -/
abbrev recvC (c : Dev nD) (d q : ℕ) : GSem nD τ sig := ((c : Thread nD τ), .dma (recvS d q))
/-- of a credit; -/
abbrev credC (c : Dev nD) (d q : ℕ) : GSem nD τ sig := ((c : Thread nD τ), .reg (credS d q))
/-- of the barrier. -/
abbrev barC (c : Dev nD) : GSem nD τ sig := ((c : Thread nD τ), .reg barS)

/-! ## Slots -/

/-- The next two slots of the sender are the same two again; -/
theorem aV_add (d p : ℕ) : aV d (p + 2) = aV d p := by
  have h : ∀ o o' : Fin 4 → Nat, o = o' → ∀ h₁ h₂, (aM.slice (Rect.unit (s := S2x2x1024x512) o S1x1x1024x512.size h₁) (fun _ => rfl)).squeeze S1024x512 squeezes_S1x1x1024x512_S1024x512
      = (aM.slice (Rect.unit (s := S2x2x1024x512) o' S1x1x1024x512.size h₂) (fun _ => rfl)).squeeze S1024x512 squeezes_S1x1x1024x512_S1024x512 := by
    rintro o _ rfl _ _; rfl
  exact h _ _ (by rw [Nat.add_mod_right]) _ _
/-- Slots two apart have the same send semaphore; -/
theorem sendS_add (d p : ℕ) : sendS d (p + 2) = sendS d p := by
  rw [sendS_eq, sendS_eq]; simp only [Nat.add_mod_right]
/-- the next ten of the receiver the same ten. -/
theorem rV_add (d q : ℕ) : rV d (q + 10) = rV d q := by
  have h : ∀ o o' : Fin 4 → Nat, o = o' → ∀ h₁ h₂, (rM.slice (Rect.unit (s := S2x10x1024x512) o S1x1x1024x512.size h₁) (fun _ => rfl)).squeeze S1024x512 squeezes_S1x1x1024x512_S1024x512
      = (rM.slice (Rect.unit (s := S2x10x1024x512) o' S1x1x1024x512.size h₂) (fun _ => rfl)).squeeze S1024x512 squeezes_S1x1x1024x512_S1024x512 := by
    rintro o _ rfl _ _; rfl
  exact h _ _ (by rw [Nat.add_mod_right]) _ _
/-- Slots ten apart have the same receive semaphore -/
theorem recvS_add (d q : ℕ) : recvS d (q + 10) = recvS d q := by
  rw [recvS_eq, recvS_eq]; simp only [Nat.add_mod_right]
/-- and the same credit. -/
theorem credS_add (d q : ℕ) : credS d (q + 10) = credS d q := by
  rw [credS_eq, credS_eq]; simp only [Nat.add_mod_right]

/-- Slot `p` of direction `d` of the messages device `c` builds, holding `X`; -/
def aOwn (c : Dev nD) (d p : ℕ) (X : FVec F S1024x512 .bf16) : sProp 𝕄 :=
  iprop(∃ f, ⌜(aV d p).view.read (Elt F) f = X⌝ ∗ (aV d p).view.loc (c : Thread nD τ) ↦[(aV d p).view.set]{fullShare} f)
/-- holding anything. -/
def aAny (c : Dev nD) (d p : ℕ) : sProp 𝕄 :=
  iprop(∃ f, (aV d p).view.loc (c : Thread nD τ) ↦[(aV d p).view.set]{fullShare} f)
/-- Slot `q` of direction `d` of the messages device `c` receives, holding `X`; -/
def rOwn (c : Dev nD) (d q : ℕ) (X : FVec F S1024x512 .bf16) : sProp 𝕄 :=
  iprop(∃ f, ⌜(rV d q).view.read (Elt F) f = X⌝ ∗ (rV d q).view.loc (c : Thread nD τ) ↦[(rV d q).view.set]{fullShare} f)
/-- holding anything. -/
def rAny (c : Dev nD) (d q : ℕ) : sProp 𝕄 :=
  iprop(∃ f, (rV d q).view.loc (c : Thread nD τ) ↦[(rV d q).view.set]{fullShare} f)

/-- A slot of the sender may be laid down in a cell, with known contents -/
instance aOwn_storable (c : Dev nD) (d p : ℕ) (X) : BI.Storable (upEmb : UEmb _ 𝕄) (aOwn (F := F) c d p X) := by unfold aOwn; infer_instance
/-- or unknown ones; -/
instance aAny_storable (c : Dev nD) (d p : ℕ) : BI.Storable (upEmb : UEmb _ 𝕄) (aAny (F := F) c d p) := by unfold aAny; infer_instance
/-- so may a slot of the receiver, with known contents -/
instance rOwn_storable (c : Dev nD) (d p : ℕ) (X) : BI.Storable (upEmb : UEmb _ 𝕄) (rOwn (F := F) c d p X) := by unfold rOwn; infer_instance
/-- or unknown ones. -/
instance rAny_storable (c : Dev nD) (d p : ℕ) : BI.Storable (upEmb : UEmb _ 𝕄) (rAny (F := F) c d p) := by unfold rAny; infer_instance

/-- Slots of the sender two apart are the same slot; -/
theorem aAny_add (c : Dev nD) (d p : ℕ) : aAny (F := F) c d (p + 2) = aAny c d p := by unfold aAny; rw [aV_add]
/-- slots of the receiver ten apart are the same slot; -/
theorem rAny_add (c : Dev nD) (d q : ℕ) : rAny (F := F) c d (q + 10) = rAny c d q := by unfold rAny; rw [rV_add]
/-- their cells are the same: the send cells, -/
theorem sendC_add (c : Dev nD) (d p : ℕ) : sendC c d (p + 2) = sendC c d p := by unfold sendC; rw [sendS_add]
/-- the receive cells -/
theorem recvC_add (c : Dev nD) (d q : ℕ) : recvC c d (q + 10) = recvC c d q := by unfold recvC; rw [recvS_add]
/-- and the cells of the credits. -/
theorem credC_add (c : Dev nD) (d q : ℕ) : credC c d (q + 10) = credC c d q := by unfold credC; rw [credS_add]

/-! ## What the messages hold -/

variable (m : (ℓ : Loc nD τ sig) → Buf (Elt F) ℓ)

/-- Device `c`'s columns of the input, as the kernel finds them; -/
def xAll (c : Dev nD) : (cc0_stg0_0 : Ref sig .tc).ty.Contents (Elt F) :=
  (win0_0.blk (0 : Fin 1)).view.read (Elt F) (m ((c : Thread nD τ).loc main_arg0))
/-- the rows of them that message `j` of direction `d` is about; -/
def xRows (c : Dev nD) (d j : ℕ) : Vec F S1024x1024 .bf16 :=
  (Memref.whole cc0_stg0_0 : Memref sig .tc .vmem S4096x1024 .bf16).view.readAt (Elt F) (xR d j c).toLoadRect (xAll m c)
/-- the device's own rows; -/
def xOwn (c : Dev nD) : Vec F S1024x1024 .bf16 :=
  (Memref.whole cc0_stg0_0 : Memref sig .tc .vmem S4096x1024 .bf16).view.readAt (Elt F) (xR₀ c).toLoadRect (xAll m c)
/-- tile `t` of direction `d` of its shard of the weights, rounded. -/
def wTile (c : Dev nD) (d t : ℕ) : FVec F S1024x512 .bf16 :=
  shapeCast S1024x512 (truncf .bf16 ((wV d t).view.read (Elt F) (m ((c : Thread nD τ).loc main_arg1))) bitsLt_bf16_f32) shapeCasts_S1024x512_S1024x512

/-- Device `c`'s part of what message `j` of direction `d` sums up. -/
def part (c : Dev nD) (d j : ℕ) : FVec F S1024x512 .f32 := prod (xRows m c d j) (wTile m c d j)
/-- A message after `s` hops, about tile `t`. -/
def hop (d t : ℕ) : ℕ → Dev nD → FVec F S1024x512 .bf16
  | 0, c => truncf .bf16 (part m c d t) bitsLt_bf16_f32
  | s + 1, c => truncf .bf16 (addf (part m c d (8 * (s + 1) + t)) (extf .f32 (hop d t s (srcD d c)) bitsLt_bf16_f32)) bitsLt_bf16_f32
/-- Message `j` of direction `d`, as device `c` sends it. -/
def msg (c : Dev nD) (d j : ℕ) : FVec F S1024x512 .bf16 := hop m d (j % 8) (j / 8) c
/-- Tile `t` of direction `d` of device `c`'s result. -/
def res (c : Dev nD) (d t : ℕ) : FVec F S1024x512 .f32 :=
  silu (addf (prod (xOwn m c) (wTile m c d t)) (extf .f32 (msg m (srcD d c) d (16 + t)) bitsLt_bf16_f32))

/-- Tiles are numbered from 0 to 7 and then again. -/
theorem wTile_mod (c : Dev nD) (d t : ℕ) : wTile m c d (t % 8) = wTile m c d t := by
  have h : ∀ o o' : Fin 2 → Nat, o = o' → ∀ h₁ h₂ (f : Buf (Elt F) ((c : Thread nD τ).loc main_arg1)),
      (wM.slice (Rect.unit (s := S1024x8192) o S1024x512.size h₁) (fun _ => rfl) : Memref sig .tc .hbm S1024x512 .f32).view.read (Elt F) f
        = (wM.slice (Rect.unit (s := S1024x8192) o' S1024x512.size h₂) (fun _ => rfl) : Memref sig .tc .hbm S1024x512 .f32).view.read (Elt F) f := by
    rintro o _ rfl _ _ _; rfl
  unfold wTile
  rw [h _ _ (by unfold col; rw [Nat.mod_mod]) _ (inb_tile d t)]

/-- The first eight messages are the device's own part, rounded; -/
theorem msg_lt (c : Dev nD) (d j : ℕ) (h : j < 8) : msg m c d j = truncf .bf16 (part m c d j) bitsLt_bf16_f32 := by
  unfold msg
  rw [Nat.mod_eq_of_lt h, Nat.div_eq_of_lt h]; rfl
/-- each later one is its own part plus the message received eight before, rounded. -/
theorem msg_ge (c : Dev nD) (d j : ℕ) (h : 8 ≤ j) :
    msg m c d j = truncf .bf16 (addf (part m c d j) (extf .f32 (msg m (srcD d c) d (j - 8)) bitsLt_bf16_f32)) bitsLt_bf16_f32 := by
  obtain ⟨i, rfl⟩ : ∃ i, j = i + 8 := ⟨j - 8, by omega⟩
  unfold msg
  rw [Nat.add_sub_cancel, Nat.add_mod_right, show (i + 8) / 8 = i / 8 + 1 by omega]
  show truncf .bf16 (addf (part m c d (8 * (i / 8 + 1) + i % 8)) _) _ = _
  rw [show 8 * (i / 8 + 1) + i % 8 = i + 8 by omega]

/-! ## The schedule -/

/-- The units that a message pays. -/
abbrev N : ℕ := (rV 0 0).view.dmaCredit
/-- A message pays at least one unit. -/
theorem N_pos : 0 < N := View.dmaCredit_pos _ (by decide)

/-- What the receiver of message `j` takes up: the message in its slot, and that the sender has
    taken up the credits that come before. -/
def recvPay (c : Dev nD) (d j : ℕ) : sProp 𝕄 :=
  iprop(rOwn c d j (msg m (srcD d c) d j) ∗ reached ER (credC (srcD d c) d j) (j / 10))
/-- What the sender takes up with the credit for message `j`: the receiver's slot, and that the
    receiver has taken up the messages that came into it before. -/
def credPay (c : Dev nD) (d j : ℕ) : sProp 𝕄 :=
  iprop(rAny (tgtD d c) d j ∗ reached ER (recvC (tgtD d c) d j) (j / 10))
/-- What the barrier hands over for one direction: the receiver's ten slots. -/
def barPay (c : Dev nD) (d : ℕ) : sProp 𝕄 :=
  bigSep (Finset.Ico 0 10) fun q => credPay c d q

/-- What a receiver takes up may be laid down in a cell; -/
instance recvPay_storable (c : Dev nD) (d j : ℕ) : BI.Storable (upEmb : UEmb _ 𝕄) (recvPay m c d j) := by unfold recvPay; infer_instance
/-- so may what comes with a credit -/
instance credPay_storable (c : Dev nD) (d j : ℕ) : BI.Storable (upEmb : UEmb _ 𝕄) (credPay (F := F) c d j) := by unfold credPay; infer_instance
/-- and what comes with the barrier. -/
instance barPay_storable (c : Dev nD) (d : ℕ) : BI.Storable (upEmb : UEmb _ 𝕄) (barPay (F := F) c d) := by unfold barPay; infer_instance

/-- The duties, amounts and payloads of every cell. -/
def sched : Rounds.Schedule (GSem nD τ sig) Bool 𝕄 where
  duties g r :=
    if g.1.2 = .tc then
      match role g.2 with
      | .send _ p => if 2 * r + p < 24 then {false} else ∅
      | .recv _ q => if 10 * r + q < 24 then {false} else ∅
      | .cred _ q => if 10 * (r + 1) + q < 24 then {false} else ∅
      | .bar => if r = 0 then Finset.univ else ∅
      | .local => ∅
    else ∅
  unitless _ := False
  amount g _ _ :=
    match role g.2 with
    | .send _ _ => N
    | .recv _ _ => N
    | _ => 1
  payload g r b :=
    match role g.2 with
    | .send d p => aAny g.1.1 d (2 * r + p)
    | .recv d q => recvPay m g.1.1 d (10 * r + q)
    | .cred d q => credPay g.1.1 d (10 * (r + 1) + q)
    | .bar => barPay g.1.1 (cond b 1 0)
    | .local => iprop(emp)
  amount_pos g _ _ _ := by
    show 0 < match role g.2 with
      | .send _ _ => N
      | .recv _ _ => N
      | _ => 1
    split
    · exact N_pos
    · exact N_pos
    · exact Nat.one_pos

/-- Every payload of the schedule may be laid down in a cell. -/
instance sched_storable (g : GSem nD τ sig) (r : ℕ) (b : Bool) : BI.Storable (upEmb : UEmb _ 𝕄) ((sched m).payload g r b) := by
  dsimp only [sched]
  split <;> infer_instance

section Sched
variable (c : Dev nD) (d j : ℕ)

/-- The round of message `j` of a send cell has one duty; -/
theorem duties_send (hj : j < 24) : (sched m).duties (sendC c d j) (j / 2) = {false} := by
  dsimp only [sched]; rw [if_pos rfl, role_send]; exact if_pos (by omega)
/-- so has that of its receive cell -/
theorem duties_recv (hj : j < 24) : (sched m).duties (recvC c d j) (j / 10) = {false} := by
  dsimp only [sched]; rw [if_pos rfl, role_recv]; exact if_pos (by omega)
/-- and that of its credit, for messages from the tenth on; -/
theorem duties_cred (h₁ : 10 ≤ j) (hj : j < 24) : (sched m).duties (credC c d j) (j / 10 - 1) = {false} := by
  dsimp only [sched]; rw [if_pos rfl, role_cred]; exact if_pos (by omega)
/-- the barrier's only round has two. -/
theorem duties_bar : (sched m).duties (barC c) 0 = Finset.univ := by
  dsimp only [sched]; rw [if_pos rfl, role_bar]; exact if_pos rfl

/-- After the last message a send cell has no more duties, -/
theorem done_send (hj : 24 ≤ j) (r : ℕ) (hr : j / 2 ≤ r) : (sched m).duties (sendC c d j) r = ∅ := by
  dsimp only [sched]; rw [if_pos rfl, role_send]; exact if_neg (by omega)
/-- nor has a receive cell, -/
theorem done_recv (hj : 24 ≤ j) (r : ℕ) (hr : j / 10 ≤ r) : (sched m).duties (recvC c d j) r = ∅ := by
  dsimp only [sched]; rw [if_pos rfl, role_recv]; exact if_neg (by omega)
/-- nor a credit, -/
theorem done_cred (hj : 24 ≤ j) (r : ℕ) (hr : j / 10 - 1 ≤ r) : (sched m).duties (credC c d j) r = ∅ := by
  dsimp only [sched]; rw [if_pos rfl, role_cred]; exact if_neg (by omega)
/-- nor the barrier after its first round. -/
theorem done_bar (r : ℕ) (hr : 1 ≤ r) : (sched m).duties (barC c) r = ∅ := by
  dsimp only [sched]; rw [if_pos rfl, role_bar]; exact if_neg (by omega)

/-- A send cell is paid a message's units, -/
theorem amount_send (r : ℕ) (b : Bool) : (sched m).amount (sendC c d j) r b = N := by
  dsimp only [sched]; rw [role_send]
/-- so is a receive cell; -/
theorem amount_recv (r : ℕ) (b : Bool) : (sched m).amount (recvC c d j) r b = N := by
  dsimp only [sched]; rw [role_recv]
/-- a credit is paid one unit -/
theorem amount_cred (r : ℕ) (b : Bool) : (sched m).amount (credC c d j) r b = 1 := by
  dsimp only [sched]; rw [role_cred]
/-- and so is the barrier by each of its payers. -/
theorem amount_bar (r : ℕ) (b : Bool) : (sched m).amount (barC c) r b = 1 := by
  dsimp only [sched]; rw [role_bar]

/-- The send cell of message `j` hands its slot back; -/
theorem payload_send (hd : d < 2) (b : Bool) : (sched m).payload (sendC c d j) (j / 2) b = aAny c d j := by
  dsimp only [sched]; rw [role_send]
  show aAny c (d % 2) (2 * (j / 2) + j % 2) = _
  rw [Nat.mod_eq_of_lt hd, Nat.div_add_mod]
/-- the receive cell hands over the message; -/
theorem payload_recv (hd : d < 2) (b : Bool) : (sched m).payload (recvC c d j) (j / 10) b = recvPay m c d j := by
  dsimp only [sched]; rw [role_recv]
  show recvPay m c (d % 2) (10 * (j / 10) + j % 10) = _
  rw [Nat.mod_eq_of_lt hd, Nat.div_add_mod]
/-- the credit hands over the receiver's slot; -/
theorem payload_cred (hd : d < 2) (h₁ : 10 ≤ j) (b : Bool) : (sched m).payload (credC c d j) (j / 10 - 1) b = credPay c d j := by
  dsimp only [sched]; rw [role_cred]
  show credPay c (d % 2) (10 * (j / 10 - 1 + 1) + j % 10) = _
  rw [Nat.mod_eq_of_lt hd, show 10 * (j / 10 - 1 + 1) + j % 10 = j by omega]
/-- the barrier hands over the ten slots of a direction. -/
theorem payload_bar (r : ℕ) (b : Bool) : (sched m).payload (barC c) r b = barPay c (cond b 1 0) := by
  dsimp only [sched]; rw [role_bar]

/-- In the round of message `j` a send cell expects a message's units, -/
theorem expect_send (hj : j < 24) : (sched m).expect (sendC c d j) (j / 2) = N := by
  unfold Schedule.expect Schedule.amountOf; rw [duties_send m c d j hj, Finset.sum_singleton, amount_send]
/-- so does a receive cell; -/
theorem expect_recv (hj : j < 24) : (sched m).expect (recvC c d j) (j / 10) = N := by
  unfold Schedule.expect Schedule.amountOf; rw [duties_recv m c d j hj, Finset.sum_singleton, amount_recv]
/-- a credit expects one unit, -/
theorem expect_cred (h₁ : 10 ≤ j) (hj : j < 24) : (sched m).expect (credC c d j) (j / 10 - 1) = 1 := by
  unfold Schedule.expect Schedule.amountOf; rw [duties_cred m c d j h₁ hj, Finset.sum_singleton, amount_cred]
/-- the barrier two. -/
theorem expect_bar : (sched m).expect (barC c) 0 = 2 := by
  unfold Schedule.expect Schedule.amountOf
  rw [duties_bar, Finset.sum_congr rfl fun b _ => amount_bar m c 0 b, Finset.sum_const, Finset.card_univ, Fintype.card_bool, smul_eq_mul]

end Sched

/-! ## Levels

   A wait at index `i` is allowed while everything owed lies at greater indices.  Local copies and
   send semaphores have index 0, the barrier 1; message `j` has index `2 j + 3` and its credit
   `2 j + 2`. -/

/-- Every index in use is less than this. -/
abbrev NI : ℕ := 64

/-- Everything that `O` owes lies at indices from `b` on. -/
def Over (b : ℕ) (O : CellTallies nD τ sig ℕ) : Prop :=
  ∀ (g : GSem nD τ sig) (i : ℕ), 0 < O g i → i ∈ SiteBlocks.L NI g ∧ b ≤ i

/-- Nothing owed lies above every index. -/
theorem Over.zero (b : ℕ) : Over b 0 := fun g i h => absurd h (Nat.lt_irrefl 0)
/-- Two debts above `b` are together above `b`. -/
theorem Over.add {b : ℕ} {O O' : CellTallies nD τ sig ℕ} (h : Over b O) (h' : Over b O') : Over b (O + O') := fun g i hp => by
  rw [Pi.add_apply, Finsupp.add_apply] at hp
  rcases Nat.add_pos_iff_pos_or_pos.mp hp with hp | hp
  · exact h g i hp
  · exact h' g i hp
/-- A debt above `b` is above every lesser index. -/
theorem Over.mono {a b : ℕ} (hab : a ≤ b) {O : CellTallies nD τ sig ℕ} (h : Over b O) : Over a O :=
  fun g i hp => ⟨(h g i hp).1, hab.trans (h g i hp).2⟩
/-- A debt at one index from `b` on is above `b`. -/
theorem Over.tally {b i n : ℕ} (c : Dev nD) (sm : SemLoc sig) (hb : b ≤ i) (hi : i < NI) : Over b (tallyAt ((c : Thread nD τ), sm) i n) := fun g k hp => by
  obtain ⟨rfl, rfl⟩ := Pipeline.tallyAt_pos hp
  exact ⟨SiteBlocks.mem_L c sm hi, hb⟩
/-- A sum of debts above `b` is above `b`. -/
theorem Over.sum {b : ℕ} (s : Finset ℕ) (f : ℕ → CellTallies nD τ sig ℕ) (h : ∀ j ∈ s, Over b (f j)) : Over b (∑ j ∈ s, f j) := by
  classical
  induction s using Finset.induction_on with
  | empty => rw [Finset.sum_empty]; exact Over.zero b
  | insert j s hj ih =>
    rw [Finset.sum_insert hj]
    exact (h j (Finset.mem_insert_self _ _)).add (ih fun i hi => h i (Finset.mem_insert_of_mem hi))

/-- The levels of all indices. -/
abbrev levs : sProp 𝕄 := levAts (SiteBlocks.L NI) SiteBlocks.lv

/-- A device may wait at an index below all that it owes. -/
theorem mayWait (c : Dev nD) (sm : SemLoc sig) {i b : ℕ} (hi : i < b) (hb : i < NI) {O : CellTallies nD τ sig ℕ} (hO : Over b O) :
    (levs : sProp 𝕄) ⊢ MayWait (c : Thread nD τ) sm i O :=
  SiteBlocks.mayWait_of hb c sm O fun g k hp => ⟨(hO g k hp).1, lt_of_lt_of_le hi (hO g k hp).2⟩

/-- A nonempty interval is its first number and the rest; -/
theorem Ico_cons {a b : ℕ} (h : a < b) : Finset.Ico a b = insert a (Finset.Ico (a + 1) b) := by
  ext i; simp only [Finset.mem_Ico, Finset.mem_insert]; omega
/-- or its last number and those before. -/
theorem Ico_snoc {a b : ℕ} (h : a ≤ b) : Finset.Ico a (b + 1) = insert b (Finset.Ico a b) := by
  ext i; simp only [Finset.mem_Ico, Finset.mem_insert]; omega
/-- A sum over an interval is the sum over the rest and the first term. -/
theorem sum_Ico_cons {a b : ℕ} (h : a < b) (f : ℕ → CellTallies nD τ sig ℕ) : ∑ i ∈ Finset.Ico a b, f i = ∑ i ∈ Finset.Ico (a + 1) b, f i + f a := by
  rw [Ico_cons h, Finset.sum_insert (by rw [Finset.mem_Ico]; omega), add_comm]
/-- The first of a row of assertions, -/
theorem bigSep_cons {a b : ℕ} (h : a < b) (Φ : ℕ → sProp 𝕄) : bigSep (Finset.Ico a b) Φ = iprop(Φ a ∗ bigSep (Finset.Ico (a + 1) b) Φ) := by
  rw [Ico_cons h]; exact bigSep_insert (by rw [Finset.mem_Ico]; omega)
/-- and one put at its end. -/
theorem bigSep_snoc {a b : ℕ} (h : a ≤ b) (Φ : ℕ → sProp 𝕄) : bigSep (Finset.Ico a (b + 1)) Φ = iprop(Φ b ∗ bigSep (Finset.Ico a b) Φ) := by
  rw [Ico_snoc h]; exact bigSep_insert (by rw [Finset.mem_Ico]; omega)

/-- The messages from `j` on that device `c` owes in direction `d`; -/
def oweV (c : Dev nD) (d j : ℕ) : CellTallies nD τ sig ℕ := ∑ i ∈ Finset.Ico j 24, tallyAt (recvC (tgtD d c) d i) (2 * i + 3) N
/-- the credits that it owes before it has received message `w`. -/
def oweC (c : Dev nD) (d w : ℕ) : CellTallies nD τ sig ℕ := ∑ i ∈ Finset.Ico (w + 10) 24, tallyAt (credC (srcD d c) d i) (2 * i + 2) 1

/-- The messages owed from `j` on are message `j` and those after it; -/
theorem oweV_succ (c : Dev nD) (d j : ℕ) (h : j < 24) : oweV c d j = oweV c d (j + 1) + tallyAt (recvC (tgtD d c) d j) (2 * j + 3) N := by
  exact sum_Ico_cons h _
/-- the credits owed before message `w` is received are the one it frees and those after it. -/
theorem oweC_succ (c : Dev nD) (d w : ℕ) (h : w < 14) :
    oweC c d w = oweC c d (w + 1) + tallyAt (credC (srcD d c) d (w + 10)) (2 * (w + 10) + 2) 1 := by
  unfold oweC; rw [sum_Ico_cons (by omega)]
/-- No credit is owed once fourteen messages have been received, -/
theorem oweC_done (c : Dev nD) (d w : ℕ) (h : 14 ≤ w) : oweC c d w = 0 := by
  unfold oweC; rw [Finset.Ico_eq_empty (by omega), Finset.sum_empty]
/-- and no message once all have been sent. -/
theorem oweV_done (c : Dev nD) (d j : ℕ) (h : 24 ≤ j) : oweV c d j = 0 := by
  unfold oweV; rw [Finset.Ico_eq_empty (by omega), Finset.sum_empty]
/-- The messages from `j` on are owed at indices from `2 j + 3` on, -/
theorem oweV_over (c : Dev nD) (d j : ℕ) : Over (2 * j + 3) (oweV c d j) :=
  Over.sum _ _ fun i hi => by
    have := Finset.mem_Ico.mp hi
    exact Over.tally _ _ (by omega) (by unfold NI; omega)
/-- the credits freed from message `w` on at indices from `2 w + 22` on. -/
theorem oweC_over (c : Dev nD) (d w : ℕ) : Over (2 * w + 22) (oweC c d w) :=
  Over.sum _ _ fun i hi => by
    have := Finset.mem_Ico.mp hi
    exact Over.tally _ _ (by omega) (by unfold NI; omega)

end Cert.RingProof

end
-- ==== Proof.Traffic.lean ====
/- The steps of the protocol: waiting for a message, for a slot, for a credit; giving a credit;
   sending.  Each is stated once, for direction `d` and a message number, over what the device
   holds of that direction. -/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loop of the body needs a variant. -/
abbrev 𝒱₀ : Variants := Variants.none

/-- Device `c` runs `p` and ends in `Φ`. -/
abbrev WP {α : Type} (c : Dev nD) (p : PR F α) (Φ : α → sProp 𝕄) : sProp 𝕄 :=
  wp frame (wpE (defs₀ (F := F)) 𝒱₀ (c : Thread nD τ) none) Set.univ p Φ

/-- To run `p` and then `k` is to run `k` from where `p` ends. -/
theorem wp_seq {α β : Type} (c : Dev nD) (p : PR F α) (k : α → PR F β) (Φ : β → sProp 𝕄) :
    WP c (p >>= k) Φ = WP c p fun a => WP c (k a) Φ := wp_bind _ _ _ p k Φ

variable (m : (ℓ : Loc nD τ sig) → Buf (Elt F) ℓ) (K : GSem nD τ sig → ℕ)

/-! ## The cells -/

/-- A device's cells: of each direction the send, receive and credit semaphores, and the barrier. -/
abbrev CellIx : Type := (Fin 2 × (Fin 2 ⊕ (Fin 10 ⊕ Fin 10))) ⊕ Unit
/-- Their semaphores. -/
def cellSem : CellIx → SemLoc sig
  | .inl (d, .inl p) => .dma (sendS d p)
  | .inl (d, .inr (.inl q)) => .dma (recvS d q)
  | .inl (d, .inr (.inr q)) => .reg (credS d q)
  | .inr _ => .reg barS
/-- The cell. -/
def cellAt (x : Dev nD × CellIx) : GSem nD τ sig := ((x.1 : Thread nD τ), cellSem x.2)

/-- A device's cells have different semaphores; -/
theorem cellSem_injective : Function.Injective cellSem := by
  have h : ∀ i, role (cellSem i) = match i with
      | .inl (d, .inl p) => Role.send d p
      | .inl (d, .inr (.inl q)) => Role.recv d q
      | .inl (d, .inr (.inr q)) => Role.cred d q
      | .inr _ => Role.bar := by
    rintro (⟨d, p | q | q⟩ | _)
    · show role (.dma (sendS d p)) = _
      rw [role_send, Nat.mod_eq_of_lt d.2, Nat.mod_eq_of_lt p.2]
    · show role (.dma (recvS d q)) = _
      rw [role_recv, Nat.mod_eq_of_lt d.2, Nat.mod_eq_of_lt q.2]
    · show role (.reg (credS d q)) = _
      rw [role_cred, Nat.mod_eq_of_lt d.2, Nat.mod_eq_of_lt q.2]
    · exact role_bar
  intro i j hij
  have e := (h i).symm.trans ((congrArg role hij).trans (h j))
  rcases i with ⟨d, p | q | q⟩ | _ <;> rcases j with ⟨d', p' | q' | q'⟩ | _ <;> simp only [Role.send.injEq, Role.recv.injEq, Role.cred.injEq, reduceCtorEq] at e
  · rw [Fin.ext e.1, Fin.ext e.2]
  · rw [Fin.ext e.1, Fin.ext e.2]
  · rw [Fin.ext e.1, Fin.ext e.2]
  · rfl

/-- and the cells of all devices are different. -/
theorem cellAt_injective : Function.Injective cellAt := by
  rintro ⟨c, i⟩ ⟨c', i'⟩ h
  exact Prod.ext (congrArg (fun g : GSem nD τ sig => g.1.1) h) (cellSem_injective (congrArg Prod.snd h))

/-- All cells. -/
def cells : Finset (GSem nD τ sig) := Finset.univ.map ⟨cellAt, cellAt_injective⟩

/-- Every semaphore of the protocol is a cell: -/
theorem mem_cells (c : Dev nD) (i : CellIx) : ((c : Thread nD τ), cellSem i) ∈ cells :=
  Finset.mem_map.mpr ⟨(c, i), Finset.mem_univ _, rfl⟩
/-- the send semaphores, -/
theorem mem_send (c : Dev nD) (d p : ℕ) : sendC c d p ∈ cells := by
  have h := mem_cells c (.inl (⟨d % 2, Nat.mod_lt _ (by decide)⟩, .inl ⟨p % 2, Nat.mod_lt _ (by decide)⟩))
  have e : sendS (d % 2) (p % 2) = sendS d p := by rw [sendS_eq, sendS_eq]; simp only [Nat.mod_mod]
  unfold sendC; rw [← e]; exact h
/-- the receive semaphores, -/
theorem mem_recv (c : Dev nD) (d q : ℕ) : recvC c d q ∈ cells := by
  have h := mem_cells c (.inl (⟨d % 2, Nat.mod_lt _ (by decide)⟩, .inr (.inl ⟨q % 10, Nat.mod_lt _ (by decide)⟩)))
  have e : recvS (d % 2) (q % 10) = recvS d q := by rw [recvS_eq, recvS_eq]; simp only [Nat.mod_mod]
  unfold recvC; rw [← e]; exact h
/-- the credits -/
theorem mem_cred (c : Dev nD) (d q : ℕ) : credC c d q ∈ cells := by
  have h := mem_cells c (.inl (⟨d % 2, Nat.mod_lt _ (by decide)⟩, .inr (.inr ⟨q % 10, Nat.mod_lt _ (by decide)⟩)))
  have e : credS (d % 2) (q % 10) = credS d q := by rw [credS_eq, credS_eq]; simp only [Nat.mod_mod]
  unfold credC; rw [← e]; exact h
/-- and the barrier. -/
theorem mem_bar (c : Dev nD) : barC c ∈ cells := mem_cells c (.inr ())

/-- Every cell keeps the schedule, has reached its first round, and the levels are known. -/
def ctx : sProp 𝕄 := iprop(bigSep cells (fun g => cellInv ER (sched m) (K g) g) ∗ bigSep cells (fun g => reached ER g 0) ∗ levs)

/-- This knowledge may be used any number of times. -/
instance ctx_persistent : BI.Persistent (ctx m K) := by unfold ctx; infer_instance

/-- It holds that each cell keeps the schedule, -/
theorem ctx_cell {g : GSem nD τ sig} (hg : g ∈ cells) : ctx m K ⊢ cellInv ER (sched m) (K g) g := by
  unfold ctx
  iintro ⟨H, -⟩
  iapply (show (bigSep cells (fun g => cellInv ER (sched m) (K g) g) : sProp 𝕄) ⊢ cellInv ER (sched m) (K g) g from bigSep_elim hg); iexact H
/-- that the levels are known -/
theorem ctx_levs : ctx m K ⊢ levs := by
  unfold ctx
  iintro ⟨-, -, H⟩; iexact H
/-- and that each cell has reached its first round. -/
theorem ctx_reached {g : GSem nD τ sig} (hg : g ∈ cells) : ctx m K ⊢ reached ER g 0 := by
  unfold ctx
  iintro ⟨-, H, -⟩
  iapply (show (bigSep cells (fun g => reached ER g 0) : sProp 𝕄) ⊢ reached ER g 0 from bigSep_elim hg); iexact H

/-- Device `c` owes `O`. -/
def owing (c : Dev nD) (O : CellTallies nD τ sig ℕ) : sProp 𝕄 := iprop(∃ W, owes (c : Thread nD τ) O W)

/-! ## Receiving -/

variable (c : Dev nD) (d : ℕ) (hd : d < 2)

/-- Direction `d` after `w` messages have been received: the right to wait for the others. -/
def recvSt (c : Dev nD) (d w : ℕ) : sProp 𝕄 :=
  iprop(bigSep (Finset.Ico w 24) (fun j => cred (tallyAt (recvC c d j) (2 * j + 3) N))
    ∗ bigSep (Finset.Ico w (w + 10)) (fun j => atPos ER (recvC c d j) (j / 10) ∅ 0))

/-- Message `j` received: its slot, and the rounds that have been reached. -/
def got (c : Dev nD) (d j : ℕ) : sProp 𝕄 :=
  iprop(rOwn c d j (msg m (srcD d c) d j) ∗ reached ER (credC (srcD d c) d j) (j / 10) ∗ reached ER (recvC c d j) (j / 10 + 1))

include hd in
/-- Waiting for message `w`. -/
theorem wp_waitRecv (Φ : PUnit → sProp 𝕄) (w : ℕ) (hw : w < 24) (O : CellTallies nD τ sig ℕ) (hO : Over (2 * w + 4) O) :
    iprop(ctx m K ∗ recvSt c d w ∗ owing c O)
      ⊢ iprop((iprop(got m c d w ∗ recvSt c d (w + 1) ∗ owing c O) -∗ Φ ⟨⟩) -∗ WP c (waitRecv d w) Φ) := by
  unfold recvSt owing
  rw [bigSep_cons hw, bigSep_cons (show w < w + 10 by omega), show w + 1 + 10 = w + 10 + 1 by omega, bigSep_snoc (show w + 1 ≤ w + 10 by omega)]
  iintro ⟨#Hctx, ⟨⟨Hc, Hcs⟩, Hat, Hats⟩, ⟨%W, HO⟩⟩ Hk
  unfold waitRecv Prog.lift
  iapply (Rounds.wp_wait_rest_token 𝒱₀ ER (sched m) (c : Thread nD τ) none (κ := K (recvC c d w))
      (wpE_waitDma2_eq 𝒱₀ (c : Thread nD τ) none Set.univ) (Set.mem_univ _) (2 * w + 3) (O := O) (W := W) (R := w / 10) (m := 0) (T := ∅)
      (by rw [Nat.zero_add, expect_recv m c d w hw])) $$ [Hc HO Hat]
  · isplitr; · iapply (ctx_cell m K (mem_recv c d w)); iexact Hctx
    isplitl [Hc]; · iexact Hc
    isplitl [HO]; · iexact HO
    isplitr
    · iapply (mayWait c (.dma (recvS d w)) (show 2 * w + 3 < 2 * w + 4 by omega) (by unfold NI; omega) hO); iapply (ctx_levs m K); iexact Hctx
    iexact Hat
  rw [Finset.sdiff_empty, duties_recv m c d w hw, bigSep_singleton, payload_recv m c d w hd]
  iintro ⟨HO, Hat, #Hr, Hpay⟩
  rw [wp_ret]; imodintro
  iapply Hk
  unfold recvPay got
  icases Hpay with ⟨Hs, #Hr'⟩
  isplitl [Hs]
  · isplitl [Hs]; · iexact Hs
    isplitr; · iexact Hr'
    iexact Hr
  isplitl [Hcs Hat Hats]
  · isplitl [Hcs]; · iexact Hcs
    isplitl [Hat]
    · rw [recvC_add, show (w + 10) / 10 = w / 10 + 1 by omega]; iexact Hat
    iexact Hats
  iexists _; iexact HO

/-! ## Slots of the sender -/

/-- Direction `d` after `j` messages have been sent and `s` of them have left their slots. -/
def slotSt (c : Dev nD) (d s j : ℕ) : sProp 𝕄 :=
  iprop(bigSep (Finset.Ico s j) (fun i => cred (tallyAt (sendC c d i) 0 N))
    ∗ bigSep (Finset.Ico s (s + 2)) (fun i => atPos ER (sendC c d i) (i / 2) ∅ 0)
    ∗ bigSep (Finset.Ico j (s + 2)) (fun i => iprop(aAny c d i ∗ reached ER (sendC c d i) (i / 2))))

include hd in
/-- Waiting until message `s` has left its slot. -/
theorem wp_waitSend (Φ : PUnit → sProp 𝕄) (s j : ℕ) (hs : s < 24) (hj : s < j) (hj' : j ≤ s + 2) (O : CellTallies nD τ sig ℕ) (hO : Over 1 O) :
    iprop(ctx m K ∗ slotSt c d s j ∗ owing c O)
      ⊢ iprop((iprop(slotSt c d (s + 1) j ∗ owing c O) -∗ Φ ⟨⟩) -∗ WP c (waitSend d s) Φ) := by
  unfold slotSt owing
  rw [bigSep_cons hj, bigSep_cons (show s < s + 2 by omega), show s + 1 + 2 = s + 2 + 1 by omega, bigSep_snoc (show s + 1 ≤ s + 2 by omega),
    bigSep_snoc hj']
  iintro ⟨#Hctx, ⟨⟨Hc, Hcs⟩, ⟨Hat, Hats⟩, Hfree⟩, ⟨%W, HO⟩⟩ Hk
  unfold waitSend Prog.lift
  iapply (Rounds.wp_wait_rest_token 𝒱₀ ER (sched m) (c : Thread nD τ) none (κ := K (sendC c d s))
      (wpE_waitDma2_eq 𝒱₀ (c : Thread nD τ) none Set.univ) (Set.mem_univ _) 0 (O := O) (W := W) (R := s / 2) (m := 0) (T := ∅)
      (by rw [Nat.zero_add, expect_send m c d s hs])) $$ [Hc HO Hat]
  · isplitr; · iapply (ctx_cell m K (mem_send c d s)); iexact Hctx
    isplitl [Hc]; · iexact Hc
    isplitl [HO]; · iexact HO
    isplitr
    · iapply (mayWait c (.dma (sendS d s)) Nat.zero_lt_one (by decide) hO); iapply (ctx_levs m K); iexact Hctx
    iexact Hat
  rw [Finset.sdiff_empty, duties_send m c d s hs, bigSep_singleton, payload_send m c d s hd]
  iintro ⟨HO, Hat, #Hr, Hpay⟩
  rw [wp_ret]; imodintro
  iapply Hk
  rw [sendC_add, aAny_add, show (s + 2) / 2 = s / 2 + 1 by omega]
  isplitr [HO]
  · isplitl [Hcs]; · iexact Hcs
    isplitl [Hat Hats]
    · isplitl [Hat]; · iexact Hat
      iexact Hats
    isplitl [Hpay]
    · isplitl [Hpay]; · iexact Hpay
      iexact Hr
    iexact Hfree
  iexists _; iexact HO

/-! ## Giving a credit -/

/-- Direction `d` after `w` messages have been received and read: the right to give the other
    credits, and the slots that are kept. -/
def giveSt (c : Dev nD) (d w : ℕ) : sProp 𝕄 :=
  iprop(bigSep (Finset.Ico (w + 10) 24) (fun j => dutyTok ER (credC (srcD d c) d j) (j / 10 - 1) false)
    ∗ bigSep (Finset.Ico 14 w) (fun j => rAny c d j))

/-- A slot of the receiver that holds `X` holds something. -/
theorem rOwn_any (c : Dev nD) (d j : ℕ) (X : FVec F S1024x512 .bf16) : rOwn c d j X ⊢ (rAny c d j : sProp 𝕄) := by
  unfold rOwn rAny
  iintro ⟨%f, -, H⟩; iexists f; iexact H

/-- From message 14 on a slot is kept. -/
theorem give_keep (w : ℕ) (hw : 14 ≤ w) : iprop(got m c d w ∗ giveSt c d w) ⊢ (giveSt c d (w + 1) : sProp 𝕄) := by
  unfold giveSt got
  rw [Finset.Ico_eq_empty (show ¬ w + 10 < 24 by omega), Finset.Ico_eq_empty (show ¬ w + 1 + 10 < 24 by omega), bigSep_snoc hw]
  iintro ⟨⟨Hs, -, -⟩, He, Hr⟩
  isplitl [He]; · iexact He
  isplitl [Hs]; · iapply (rOwn_any c d w); iexact Hs
  iexact Hr

include hd in
/-- Giving message `w`'s slot back. -/
theorem wp_give (Φ : PUnit → sProp 𝕄) (w : ℕ) (hw : w < 14) (O : CellTallies nD τ sig ℕ) :
    iprop(ctx m K ∗ got m c d w ∗ giveSt c d w ∗ owing c (O + oweC c d w))
      ⊢ iprop((iprop(giveSt c d (w + 1) ∗ owing c (O + oweC c d (w + 1))) -∗ Φ ⟨⟩) -∗ WP c (semSignalWord (srcD d c) (credS d w) 1#32) Φ) := by
  unfold giveSt owing got
  have hR : (w + 10) / 10 - 1 = w / 10 := by omega
  have hdt := duties_cred m (srcD d c) d (w + 10) (by omega) (by omega)
  have hp := payload_cred m (srcD d c) d (w + 10) hd (by omega) false
  rw [credC_add, hR] at hdt hp
  rw [bigSep_cons (show w + 10 < 24 by omega), show w + 1 + 10 = w + 10 + 1 by omega, oweC_succ c d w hw, ← add_assoc,
    credC_add, hR, Finset.Ico_eq_empty (show ¬ 14 < w by omega), Finset.Ico_eq_empty (show ¬ 14 < w + 1 by omega)]
  iintro ⟨#Hctx, ⟨Hs, #Hr, #Hr'⟩, ⟨⟨Htok, Htoks⟩, He⟩, ⟨%W, HO⟩⟩ Hk
  unfold semSignalWord
  iapply (Rounds.wp_signal 𝒱₀ ER (sched m) (c : Thread nD τ) none (dst := (srcD d c : Thread nD τ)) (κ := K (credC (srcD d c) d w))
      (sem := credS d w) (r := w / 10) (d := false) (k' := 1)
      (by rw [hdt]; exact Finset.mem_singleton_self _)
      (amount_cred m (srcD d c) d w _ _) (2 * (w + 10) + 2) (O + oweC c d (w + 1)) rfl)
    $$ [HO Htok Hs]
  · isplitr; · iapply (ctx_cell m K (mem_cred (srcD d c) d w)); iexact Hctx
    isplitl [HO]; · iexact HO
    isplitl [Htok]; · iexact Htok
    isplitl [Hs]
    · rw [hp]; unfold credPay; rw [tgt_src, rAny_add, recvC_add, show (w + 10) / 10 = w / 10 + 1 by omega]
      isplitl [Hs]; · iapply (rOwn_any c d w); iexact Hs
      iexact Hr'
    · iexact Hr
  iintro HO
  rw [wp_ret]; imodintro
  iapply Hk
  isplitr [HO]
  · isplitl [Htoks]; · iexact Htoks
    iexact He
  iexists _; iexact HO

/-! ## Waiting for a credit -/

/-- Direction `d` before the credit for message `k` has been taken: the right to wait for it and the following. -/
def credSt (c : Dev nD) (d k : ℕ) : sProp 𝕄 :=
  iprop(bigSep (Finset.Ico k 24) (fun j => cred (tallyAt (credC c d j) (2 * j + 2) 1))
    ∗ bigSep (Finset.Ico k (k + 10)) (fun j => atPos ER (credC c d j) (j / 10 - 1) ∅ 0))

/-- The receiver's slots that device `c` may write, for the messages from `j` up to `k`. -/
def farSt (c : Dev nD) (d j k : ℕ) : sProp 𝕄 :=
  bigSep (Finset.Ico j k) fun i => iprop(credPay c d i ∗ reached ER (credC c d i) (i / 10))

include hd in
/-- Waiting for the credit for message `k`. -/
theorem wp_waitCred (Φ : PUnit → sProp 𝕄) (j k : ℕ) (h₁ : 10 ≤ k) (hk : k < 24) (hj : j ≤ k) (O : CellTallies nD τ sig ℕ) (hO : Over (2 * k + 3) O) :
    iprop(ctx m K ∗ credSt c d k ∗ farSt c d j k ∗ owing c O)
      ⊢ iprop((iprop(credSt c d (k + 1) ∗ farSt c d j (k + 1) ∗ owing c O) -∗ Φ ⟨⟩) -∗ WP c (semWaitWord (credS d k) 1#32) Φ) := by
  unfold credSt farSt owing
  rw [bigSep_cons hk, bigSep_cons (show k < k + 10 by omega), show k + 1 + 10 = k + 10 + 1 by omega, bigSep_snoc (show k + 1 ≤ k + 10 by omega),
    bigSep_snoc hj]
  iintro ⟨#Hctx, ⟨⟨Hc, Hcs⟩, Hat, Hats⟩, Hfar, ⟨%W, HO⟩⟩ Hk
  unfold semWaitWord
  iapply (Rounds.wp_wait_rest_token 𝒱₀ ER (sched m) (c : Thread nD τ) none (κ := K (credC c d k))
      (wpE_semWait_eq 𝒱₀ (c : Thread nD τ) none Set.univ) (Set.mem_univ _) (2 * k + 2) (O := O) (W := W) (R := k / 10 - 1) (m := 0) (T := ∅)
      (by rw [Nat.zero_add, expect_cred m c d k h₁ hk]; decide)) $$ [Hc HO Hat]
  · isplitr; · iapply (ctx_cell m K (mem_cred c d k)); iexact Hctx
    isplitl [Hc]; · iexact Hc
    isplitl [HO]; · iexact HO
    isplitr
    · iapply (mayWait c (.reg (credS d k)) (show 2 * k + 2 < 2 * k + 3 by omega) (by unfold NI; omega) hO); iapply (ctx_levs m K); iexact Hctx
    iexact Hat
  rw [Finset.sdiff_empty, duties_cred m c d k h₁ hk, bigSep_singleton, payload_cred m c d k hd h₁, show k / 10 - 1 + 1 = k / 10 by omega]
  iintro ⟨HO, Hat, #Hr, Hpay⟩
  rw [wp_ret]; imodintro
  iapply Hk
  rw [credC_add, show (k + 10) / 10 - 1 = k / 10 by omega]
  isplitl [Hcs Hat Hats]
  · isplitl [Hcs]; · iexact Hcs
    isplitl [Hat]; · iexact Hat
    iexact Hats
  isplitl [Hpay Hfar]
  · isplitl [Hpay]
    · isplitl [Hpay]; · iexact Hpay
      iexact Hr
    iexact Hfar
  iexists _; iexact HO

/-! ## Sending -/

/-- The right to send the messages from `j` on. -/
def postSt (c : Dev nD) (d j : ℕ) : sProp 𝕄 :=
  bigSep (Finset.Ico j 24) fun i => iprop(dutyTok ER (recvC (tgtD d c) d i) (i / 10) false ∗ dutyTok ER (sendC c d i) (i / 2) false)

include hd in
/-- Sending message `j`, built in its slot. -/
theorem wp_post (Φ : PUnit → sProp 𝕄) (s j k : ℕ) (hj : j < 24) (hs : s ≤ j) (hjk : j < k) (O : CellTallies nD τ sig ℕ) :
    iprop(ctx m K ∗ postSt c d j ∗ farSt c d j k ∗ aOwn c d j (msg m c d j) ∗ reached ER (sendC c d j) (j / 2)
        ∗ bigSep (Finset.Ico s j) (fun i => cred (tallyAt (sendC c d i) 0 N)) ∗ owing c (O + oweV c d j))
      ⊢ iprop((iprop(postSt c d (j + 1) ∗ farSt c d (j + 1) k
            ∗ bigSep (Finset.Ico s (j + 1)) (fun i => cred (tallyAt (sendC c d i) 0 N)) ∗ owing c (O + oweV c d (j + 1))) -∗ Φ ⟨⟩)
          -∗ WP c (post c d j) Φ) := by
  unfold postSt farSt owing aOwn credPay rAny
  rw [bigSep_cons hj, bigSep_cons hjk, bigSep_snoc hs, oweV_succ c d j hj, ← add_assoc]
  iintro ⟨#Hctx, ⟨⟨Ht₂, Ht₁⟩, Hts⟩, ⟨⟨⟨⟨%fd, Hd⟩, #Hr₂⟩, #Hr₃⟩, Hfar⟩, ⟨%fa, %hfa, Ha⟩, #Hr₁, Hcs, ⟨%W, HO⟩⟩ Hk
  unfold post Prog.lift
  iapply (Rounds.wp_send_pointsTo_with 𝒱₀ ER (sched m) (c : Thread nD τ) none (c' := (tgtD d c : Thread nD τ))
      (κ₁ := K (sendC c d j)) (κ₂ := K (recvC (tgtD d c) d j)) (r₁ := j / 2) (r₂ := j / 10) (d₁ := false) (d₂ := false)
      (fs := fa) (fd := fd) (F := reached ER (credC c d j) (j / 10))
      (by rw [duties_send m c d j hj]; exact Finset.mem_singleton_self _) (by rw [duties_recv m _ d j hj]; exact Finset.mem_singleton_self _)
      (2 * j + 3) 0 N rfl (amount_send m c d j _ _) (amount_recv m _ d j _ _) (O + oweV c d (j + 1)) rfl (W := W)
      (by rw [payload_send m c d j hd]; unfold aAny; iintro H; iexists fa; iexact H)
      (by
        rw [payload_recv m _ d j hd]; unfold recvPay rOwn; rw [src_tgt]
        iintro ⟨H, Hr⟩
        isplitl [H]
        · iexists ((rV d j).view.write (Elt F) fd ((aV d j).view.read (Elt F) fa) Finset.univ)
          isplitr
          · ipureintro; exact (View.read_write_univ _ _).trans hfa
          iexact H
        iexact Hr))
    $$ [Ha Hd HO Ht₁ Ht₂]
  · isplitr; · iapply (ctx_cell m K (mem_send c d j)); iexact Hctx
    isplitr; · iapply (ctx_cell m K (mem_recv (tgtD d c) d j)); iexact Hctx
    isplitl [Ha]; · iexact Ha
    isplitl [Hd]
    · isplitl [Hd]; · iexact Hd
      iexact Hr₃
    isplitl [HO]; · iexact HO
    isplitl [Ht₁]; · iexact Ht₁
    isplitr; · iexact Hr₁
    isplitl [Ht₂]; · iexact Ht₂
    iexact Hr₂
  iintro ⟨Hc, HO⟩
  rw [wp_ret]; imodintro
  iapply Hk
  isplitl [Hts]; · iexact Hts
  isplitl [Hfar]; · iexact Hfar
  isplitl [Hc Hcs]
  · isplitl [Hc]; · iexact Hc
    iexact Hcs
  iexists _; iexact HO

end Cert.RingProof

end
-- ==== Proof.Copies.lean ====
/- The steps that stay on a device: loads and stores, and the copies through the two stages. -/
module

public import proofs.«01_k».proof.Proof.Traffic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : GSem nD τ sig → ℕ) (c : Dev nD) (d : ℕ)

/-- Doing nothing. -/
theorem wp_pure (Φ : PUnit → sProp 𝕄) : iprop(Φ ⟨⟩) ⊢ WP c (pure ⟨⟩ : PR F PUnit) Φ := by
  rw [show (pure ⟨⟩ : PR F PUnit) = .ret ⟨⟩ from rfl]
  iintro H
  unfold WP
  rw [wp_ret]; imodintro; iexact H

/-! ## What a device holds of its buffers -/

/-- The input in its stage. -/
def xPts : sProp 𝕄 :=
  (Memref.whole cc0_stg0_0 : Memref sig .tc .vmem S4096x1024 .bf16).view.loc (c : Thread nD τ) ↦[Finset.univ]{fullShare} (xAll m c)

/-- A tile of the rounded weights, as a view. -/
abbrev bV (d t : ℕ) : Memref sig .tc .vmem S1024x512 .bf16 := bM.slice (tileR d t) (fun _ => rfl)

/-- A view's elements, which read `X`; -/
def vOwn {sp : Space} {s : Shape} {e : EltTy} (V : Memref sig .tc sp s e) (X : s.Idx → Elt F e) : sProp 𝕄 :=
  iprop(∃ f, ⌜V.view.read (Elt F) f = X⌝ ∗ V.view.loc (c : Thread nD τ) ↦[V.view.set]{fullShare} f)
/-- which hold anything. -/
def vAny {sp : Space} {s : Shape} {e : EltTy} (V : Memref sig .tc sp s e) : sProp 𝕄 :=
  iprop(∃ f, V.view.loc (c : Thread nD τ) ↦[V.view.set]{fullShare} f)

/-- Elements that read `X` hold something. -/
theorem vOwn_any {sp : Space} {s : Shape} {e : EltTy} (V : Memref sig .tc sp s e) (X : s.Idx → Elt F e) : vOwn c V X ⊢ (vAny c V : sProp 𝕄) := by
  unfold vOwn vAny
  iintro ⟨%f, -, H⟩; iexists f; iexact H

/-- After `X` is written through a view, the view reads `X`. -/
theorem vOwn_written {sp : Space} {s : Shape} {e : EltTy} (V : Memref sig .tc sp s e) (f : Buf (Elt F) (V.view.loc (c : Thread nD τ))) (X : s.Idx → Elt F e) :
    iprop(V.view.loc (c : Thread nD τ) ↦[V.view.set]{fullShare} (V.view.write (Elt F) f X Finset.univ)) ⊢ (vOwn c V X : sProp 𝕄) := by
  unfold vOwn
  iintro H; iexists (V.view.write (Elt F) f X Finset.univ); isplitr
  · ipureintro; exact View.read_write_univ _ _
  iexact H

/-- A tile of the weights. -/
def wPts (t : ℕ) : sProp 𝕄 := (wV d t).view.loc (c : Thread nD τ) ↦[(wV d t).view.set]{fullShare} (m ((c : Thread nD τ).loc main_arg1))

/-! ## Loads and stores -/

/-- Loading the rows of the input that a message is about; -/
theorem wp_loadXm (Φ : Vec F S1024x1024 .bf16 → sProp 𝕄) (j : ℕ)
    (hl : (Memref.whole cc0_stg0_0 : Memref sig .tc .vmem S4096x1024 .bf16).view.LoadsAt (xR d j c).toLoadRect) :
    xPts m c ⊢ iprop((xPts m c -∗ Φ (xRows m c d j)) -∗ WP c (Prog.lift (.load (Memref.whole cc0_stg0_0) (xR d j c).toLoadRect hl)) Φ) := by
  unfold xPts xRows
  iintro H Hk
  unfold Prog.lift
  iapply (wp_load 𝒱₀ (c : Thread nD τ) none Set.univ (m := (Memref.whole cc0_stg0_0 : Memref sig .tc .vmem S4096x1024 .bf16)) (Finset.subset_univ _)) $$ H
  iintro H
  rw [wp_ret]; imodintro
  iapply Hk; iexact H

/-- loading the device's own rows. -/
theorem wp_loadXo (Φ : Vec F S1024x1024 .bf16 → sProp 𝕄)
    (hl : (Memref.whole cc0_stg0_0 : Memref sig .tc .vmem S4096x1024 .bf16).view.LoadsAt (xR₀ c).toLoadRect) :
    xPts m c ⊢ iprop((xPts m c -∗ Φ (xOwn m c)) -∗ WP c (Prog.lift (.load (Memref.whole cc0_stg0_0) (xR₀ c).toLoadRect hl)) Φ) := by
  unfold xPts xOwn
  iintro H Hk
  unfold Prog.lift
  iapply (wp_load 𝒱₀ (c : Thread nD τ) none Set.univ (m := (Memref.whole cc0_stg0_0 : Memref sig .tc .vmem S4096x1024 .bf16)) (Finset.subset_univ _)) $$ H
  iintro H
  rw [wp_ret]; imodintro
  iapply Hk; iexact H

/-- Loading a slice that reads `X`; -/
theorem wp_loadOwn {s : Shape} {e : EltTy} {M : Memref sig .tc .vmem s e} {r : Rect s} {hu : ∀ a, r.stride a = 1} (Φ : (r.shape.Idx → Elt F e) → sProp 𝕄)
    (hl : M.view.LoadsAt r.toLoadRect) (X : r.shape.Idx → Elt F e) :
    vOwn c (M.slice r hu) X ⊢ iprop((vOwn c (M.slice r hu) X -∗ Φ X) -∗ WP c (Prog.lift (.load M r.toLoadRect hl)) Φ) := by
  unfold vOwn
  iintro ⟨%f, %hf, H⟩ Hk
  unfold Prog.lift
  iapply (wp_load_rect 𝒱₀ (c : Thread nD τ) none Set.univ (m := M) (r := r) (S := (M.slice r hu).view.set) (f := f) subset_rfl) $$ H
  iintro H
  rw [wp_ret]; imodintro
  rw [show (M.access r).read (Elt F) f = X from hf]
  iapply Hk
  iexists f; isplitr
  · ipureintro; exact hf
  iexact H

/-- one that holds anything. -/
theorem wp_loadAny {s : Shape} {e : EltTy} {M : Memref sig .tc .vmem s e} {r : Rect s} {hu : ∀ a, r.stride a = 1} (Φ : (r.shape.Idx → Elt F e) → sProp 𝕄)
    (hl : M.view.LoadsAt r.toLoadRect) :
    vAny c (M.slice r hu) ⊢ iprop((∀ X, vOwn c (M.slice r hu) X -∗ Φ X) -∗ WP c (Prog.lift (.load M r.toLoadRect hl)) Φ) := by
  unfold vAny
  iintro ⟨%f, H⟩ Hk
  iapply (wp_loadOwn c Φ hl ((M.slice r hu).view.read (Elt F) f)) $$ [H]
  · unfold vOwn; iexists f; isplitr
    · ipureintro; rfl
    iexact H
  iapply Hk

/-- Storing into a slice. -/
theorem wp_storeAny {s : Shape} {e : EltTy} {M : Memref sig .tc .vmem s e} {r : Rect s} {hu : ∀ a, r.stride a = 1} (Φ : PUnit → sProp 𝕄)
    (X : r.shape.Idx → Elt F e) (hx : (M.access r).Stores Finset.univ) (hm) :
    vAny c (M.slice r hu) ⊢ iprop((vOwn c (M.slice r hu) X -∗ Φ ⟨⟩) -∗ WP c (Prog.lift (.store M r X Finset.univ hx hm)) Φ) := by
  unfold vAny
  iintro ⟨%f, H⟩ Hk
  unfold Prog.lift
  iapply (wp_store 𝒱₀ (c : Thread nD τ) none Set.univ (m := M) (r := r) (Mk := Finset.univ) (S := (M.slice r hu).view.set) (f := f) subset_rfl) $$ H
  iintro H
  rw [wp_ret]; imodintro
  iapply Hk
  unfold vOwn
  iexists ((M.access r).write (Elt F) f X Finset.univ); isplitr
  · ipureintro; exact View.read_write_univ _ _
  iexact H

/-- A slice seen with fewer axes. -/
theorem vOwn_squeeze {sp : Space} {s : Shape} {e : EltTy} (V : Memref sig .tc sp s e) (s' : Shape) (h : s.Squeezes s') (X : s.Idx → Elt F e) :
    vOwn c V X ⊢ (vOwn c (V.squeeze s' h) (shapeCast s' X h.numel_eq) : sProp 𝕄) := by
  unfold vOwn
  iintro ⟨%f, %hf, H⟩
  iexists f; isplitr
  · ipureintro; subst hf; rfl
  have hs : (V.squeeze s' h).view.set = V.view.set := View.set_reshape ..
  rw [hs]; iexact H

/-- The same slice with all axes. -/
theorem vAny_unsqueeze {sp : Space} {s : Shape} {e : EltTy} (V : Memref sig .tc sp s e) (s' : Shape) (h : s.Squeezes s') :
    vAny c (V.squeeze s' h) ⊢ (vAny c V : sProp 𝕄) := by
  unfold vAny
  iintro ⟨%f, H⟩
  iexists f
  have hs : (V.squeeze s' h).view.set = V.view.set := View.set_reshape ..
  rw [← hs]; iexact H
/-- A view without its axes of size one reads the same values as the view with them. -/
theorem vOwn_unsqueeze {sp : Space} {s : Shape} {e : EltTy} (V : Memref sig .tc sp s e) (s' : Shape) (h : s.Squeezes s') (Y : s'.Idx → Elt F e) :
    vOwn c (V.squeeze s' h) Y ⊢ (iprop(∃ X, ⌜shapeCast s' X h.numel_eq = Y⌝ ∗ vOwn c V X) : sProp 𝕄) := by
  unfold vOwn
  iintro ⟨%f, %hf, H⟩
  iexists (V.view.read (Elt F) f); isplitr
  · ipureintro; exact hf
  iexists f; isplitr
  · ipureintro; rfl
  have hs : (V.squeeze s' h).view.set = V.view.set := View.set_reshape ..
  rw [← hs]; iexact H

/-- A slot of the sender that holds `X` is a view that reads `X`; -/
theorem aOwn_eq (j : ℕ) (X : FVec F S1024x512 .bf16) : aOwn c d j X = (vOwn c (aV d j) X : sProp 𝕄) := rfl
/-- one that holds anything is a view that reads anything. -/
theorem aAny_eq (j : ℕ) : aAny c d j = (vAny c (aV d j) : sProp 𝕄) := rfl
/-- A slot of the receiver that holds `X` is a view that reads `X`; -/
theorem rOwn_eq (j : ℕ) (X : FVec F S1024x512 .bf16) : rOwn c d j X = (vOwn c (rV d j) X : sProp 𝕄) := rfl
/-- one that holds anything is a view that reads anything. -/
theorem rAny_eq (j : ℕ) : rAny c d j = (vAny c (rV d j) : sProp 𝕄) := rfl

/-! ## Bringing the weights in -/

/-- The units that a copy through a stage pays. -/
abbrev Ng : ℕ := (gV 0).view.dmaCredit
/-- The units that a copy of a tile of the result pays. -/
abbrev Nu : ℕ := (oV 0 0).view.dmaCredit

/-- `t` tiles have been fetched and no copy is under way; -/
def wIdle (t : ℕ) : sProp 𝕄 :=
  iprop(bigSep (Finset.Ico 0 t) (wPts m c d) ∗ bigSep (Finset.Ico t 8) (wPts m c d) ∗ vAny c (gV d) ∗ semVal ((c : Thread nD τ), .dma (wdS d)) 0)
/-- tile `t` is being fetched; -/
def wFly (t : ℕ) : sProp 𝕄 :=
  iprop(bigSep (Finset.Ico 0 t) (wPts m c d) ∗ bigSep (Finset.Ico (t + 1) 8) (wPts m c d)
    ∗ ∃ f, Flight EC (c : Thread nD τ) (.dma (wdS d)) 0 Ng
        iprop(((gV d).view.loc (c : Thread nD τ) ↦[(gV d).view.set]{fullShare}
            ((gV d).view.write (Elt F) f ((wV d t).view.read (Elt F) (m ((c : Thread nD τ).loc main_arg1))) Finset.univ)) ∗ wPts m c d t))
/-- the one or the other. -/
def wSt (t : ℕ) : sProp 𝕄 := if t < 8 then wFly m c d t else wIdle m c d t

/-- Starting the copy of tile `t` of the weights puts it under way. -/
theorem wp_start (Φ : PUnit → sProp 𝕄) (t : ℕ) (ht : t < 8) :
    wIdle m c d t ⊢ iprop((wFly m c d t -∗ Φ ⟨⟩) -∗ WP c (start d t) Φ) := by
  unfold wIdle wFly vAny
  rw [bigSep_cons ht]
  iintro ⟨Hw, ⟨Ht, Hw'⟩, ⟨%f, Hg⟩, Hv⟩ Hk
  unfold start Prog.lift
  iapply (wp_dmaLocal EC 𝒱₀ (c : Thread nD τ) none (via := ReadAs.same) (src := wV d t) (dst := gV d) (sm := .dma (wdS d)) 0 Ng rfl (View.dmaCredit_pos _ (by decide)) subset_rfl)
    $$ [Ht Hg Hv]
  · isplitl [Ht]; · unfold wPts; iexact Ht
    isplitl [Hg]; · iexact Hg
    iexact Hv
  iintro HF
  rw [wp_ret]; imodintro
  iapply Hk
  isplitl [Hw]; · iexact Hw
  isplitl [Hw']; · iexact Hw'
  iexists f; iexact HF

/-- The rounded tiles: the first `t` are in place. -/
def bSt (t : ℕ) : sProp 𝕄 :=
  iprop(bigSep (Finset.Ico 0 t) (fun i => vOwn c (bV d i) (wTile m c d i)) ∗ bigSep (Finset.Ico t 8) (fun i => vAny c (bV d i)))

/-- Taking a tile in. -/
theorem wp_finish (Φ : PUnit → sProp 𝕄) (t : ℕ) (ht : t < 8) (O : CellTallies nD τ sig ℕ) (hO : Over 1 O) :
    iprop(ctx m K ∗ wFly m c d t ∗ bSt m c d t ∗ owing c O)
      ⊢ iprop((iprop(wSt m c d (t + 1) ∗ bSt m c d (t + 1) ∗ owing c O) -∗ Φ ⟨⟩) -∗ WP c (finish d t) Φ) := by
  unfold finish
  rw [wp_seq]
  unfold bSt wFly owing
  rw [bigSep_cons ht, bigSep_snoc (Nat.zero_le t)]
  iintro ⟨#Hctx, ⟨Hw, Hw', ⟨%f, HF⟩⟩, ⟨Hb, Hbt, Hb'⟩, ⟨%W, HO⟩⟩ Hk
  unfold Prog.lift
  iapply (wp_waitLocalO EC 𝒱₀ (c : Thread nD τ) none (srcw := wV d t) (dstw := gV d) 0 (N := Ng) rfl (O := O) (W := W)) $$ [HF HO]
  · isplitl [HF]; · iexact HF
    isplitl [HO]; · iexact HO
    iapply (mayWait c (.dma (wdS d)) Nat.zero_lt_one (by decide) hO); iapply (ctx_levs m K); iexact Hctx
  iintro ⟨⟨Hg, Ht⟩, Hv, HO⟩
  rw [wp_ret]; imodintro
  rw [wp_seq]
  ihave Hg := (vOwn_written c (gV d) f _) $$ Hg
  ihave Hg := (vOwn_unsqueeze c _ _ _ _) $$ Hg
  icases Hg with ⟨%v, %hv, Hg⟩
  iapply (wp_loadOwn c _ _ v) $$ Hg
  iintro Hg
  rw [wp_seq]
  iapply (wp_loadAny c _ _) $$ Hbt
  iintro %v' Hbt
  rw [wp_seq]
  ihave Hbt := (vOwn_any c _ _) $$ Hbt
  iapply (wp_storeAny c _ _ _ _) $$ Hbt
  iintro Hbt
  have hX : payW v = wTile m c d t := by unfold payW wTile; rw [hv]
  rw [hX]
  ihave Hg := (vOwn_squeeze c _ S1024x512 squeezes_S1x1024x512_S1024x512 v) $$ Hg
  ihave Hg := (vOwn_any c _ _) $$ Hg
  unfold whenB wSt
  by_cases h : t + 1 < 8
  · rw [if_pos h, show Nat.ble (t + 1) 7 = true from Nat.ble_eq.mpr (by omega), cond_true]
    iapply (wp_start m c d _ (t + 1) h) $$ [Hw Hw' Hg Hv Ht]
    · unfold wIdle
      rw [bigSep_snoc (Nat.zero_le t)]
      isplitl [Hw Ht]
      · isplitl [Ht] <;> iassumption
      isplitl [Hw']; · iexact Hw'
      isplitl [Hg] <;> iassumption
    iintro Hw
    iapply Hk
    isplitl [Hw]; · iexact Hw
    isplitl [Hb Hbt Hb']
    · isplitl [Hb Hbt]
      · isplitl [Hbt] <;> iassumption
      iexact Hb'
    iexists _; iexact HO
  · rw [if_neg h, show Nat.ble (t + 1) 7 = false from by rw [← Bool.not_eq_true, Nat.ble_eq]; omega, cond_false]
    iapply (wp_pure c Φ)
    iapply Hk
    isplitl [Hw Hw' Hg Hv Ht]
    · unfold wIdle
      rw [bigSep_snoc (Nat.zero_le t)]
      isplitl [Hw Ht]
      · isplitl [Ht] <;> iassumption
      isplitl [Hw']; · iexact Hw'
      isplitl [Hg] <;> iassumption
    isplitl [Hb Hbt Hb']
    · isplitl [Hb Hbt]
      · isplitl [Hbt] <;> iassumption
      iexact Hb'
    iexists _; iexact HO

/-! ## Writing the result out -/

/-- The first `t` tiles of the result are in place, and no copy is under way; -/
def oIdle (t : ℕ) : sProp 𝕄 :=
  iprop(bigSep (Finset.Ico 0 t) (fun i => vOwn c (oV d i) (res m c d i)) ∗ bigSep (Finset.Ico t 8) (fun i => vAny c (oV d i))
    ∗ vAny c (uV d) ∗ semVal ((c : Thread nD τ), .dma (odS d)) 0)
/-- tile `t` is being written. -/
def oFly (t : ℕ) : sProp 𝕄 :=
  iprop(bigSep (Finset.Ico 0 t) (fun i => vOwn c (oV d i) (res m c d i)) ∗ bigSep (Finset.Ico (t + 1) 8) (fun i => vAny c (oV d i))
    ∗ ∃ fs fd, ⌜(uV d).view.read (Elt F) fs = res m c d t⌝ ∗ Flight EC (c : Thread nD τ) (.dma (odS d)) 0 Nu
        iprop(((oV d t).view.loc (c : Thread nD τ) ↦[(oV d t).view.set]{fullShare}
            ((oV d t).view.write (Elt F) fd ((uV d).view.read (Elt F) fs) Finset.univ))
          ∗ ((uV d).view.loc (c : Thread nD τ) ↦[(uV d).view.set]{fullShare} fs)))
/-- Tile `t` is next. -/
def oSt : ℕ → sProp 𝕄
  | 0 => oIdle m c d 0
  | t + 1 => oFly m c d t

/-- Waiting until tile `t` has been written. -/
theorem wp_waitOut (Φ : PUnit → sProp 𝕄) (t : ℕ) (O : CellTallies nD τ sig ℕ) (hO : Over 1 O) :
    iprop(ctx m K ∗ oFly m c d t ∗ owing c O)
      ⊢ iprop((iprop(oIdle m c d (t + 1) ∗ owing c O) -∗ Φ ⟨⟩) -∗ WP c (waitOut d t) Φ) := by
  unfold oFly oIdle owing
  rw [bigSep_snoc (Nat.zero_le t)]
  iintro ⟨#Hctx, ⟨Ho, Ho', ⟨%fs, %fd, %hfs, HF⟩⟩, ⟨%W, HO⟩⟩ Hk
  unfold waitOut Prog.lift
  iapply (wp_waitLocalO EC 𝒱₀ (c : Thread nD τ) none (srcw := uV d) (dstw := oV d t) 0 (N := Nu) rfl (O := O) (W := W)) $$ [HF HO]
  · isplitl [HF]; · iexact HF
    isplitl [HO]; · iexact HO
    iapply (mayWait c (.dma (odS d)) Nat.zero_lt_one (by decide) hO); iapply (ctx_levs m K); iexact Hctx
  iintro ⟨⟨Ht, Hu⟩, Hv, HO⟩
  rw [wp_ret]; imodintro
  rw [hfs]
  ihave Ht := (vOwn_written c (oV d t) fd _) $$ Ht
  iapply Hk
  isplitr [HO]
  · isplitl [Ho Ht]
    · isplitl [Ht] <;> iassumption
    isplitl [Ho']; · iexact Ho'
    isplitl [Hu]; · unfold vAny; iexists fs; iexact Hu
    iexact Hv
  iexists _; iexact HO

/-- Writing tile `t`. -/
theorem wp_putOut (Φ : PUnit → sProp 𝕄) (t : ℕ) (ht : t < 8) (h₁ h₂ h₃) :
    iprop(bigSep (Finset.Ico 0 t) (fun i => vOwn c (oV d i) (res m c d i)) ∗ bigSep (Finset.Ico t 8) (fun i => vAny c (oV d i))
        ∗ vOwn c (uV d) (res m c d t) ∗ semVal ((c : Thread nD τ), .dma (odS d)) 0)
      ⊢ iprop((oFly m c d t -∗ Φ ⟨⟩) -∗ WP c (Prog.lift (.enqueueDma (uV d) (.here (oV d t)) (.dma (odS d)) h₁ h₂ h₃)) Φ) := by
  unfold oFly
  rw [bigSep_cons ht]
  iintro ⟨Ho, ⟨Ht, Ho'⟩, Hu, Hv⟩ Hk
  unfold vOwn vAny
  icases Hu with ⟨%fs, %hfs, Hu⟩
  icases Ht with ⟨%fd, Ht⟩
  unfold Prog.lift
  iapply (wp_dmaLocal EC 𝒱₀ (c : Thread nD τ) none (via := ReadAs.same) (src := uV d) (dst := oV d t) (sm := .dma (odS d)) 0 Nu rfl (View.dmaCredit_pos _ (by decide)) subset_rfl)
    $$ [Ht Hu Hv]
  · isplitl [Hu]; · iexact Hu
    isplitl [Ht]; · iexact Ht
    iexact Hv
  iintro HF
  rw [wp_ret]; imodintro
  iapply Hk
  isplitl [Ho]; · iexact Ho
  isplitl [Ho']; · iexact Ho'
  iexists fs; iexists fd; isplitr
  · ipureintro; exact hfs
  iexact HF

end Cert.RingProof

end
-- ==== Proof.Send.lean ====
/- One message and one tile of the result, from the steps they consist of. -/
module

public import proofs.«01_k».proof.Proof.Copies

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : GSem nD τ sig → ℕ) (c : Dev nD) (d : ℕ) (hd : d < 2)

/-- The test `a ≤ b` is true where `a ≤ b` holds, -/
theorem ble_true {a b : ℕ} (h : a ≤ b) : Nat.ble a b = true := Nat.ble_eq.mpr h
/-- and false where it does not. -/
theorem ble_false {a b : ℕ} (h : ¬ a ≤ b) : Nat.ble a b = false := by rw [← Bool.not_eq_true, Nat.ble_eq]; exact h

/-! ## The parts of a message -/

/-- What message `j` is built from besides the product: the message eight before. -/
def held (j : ℕ) : sProp 𝕄 := if 8 ≤ j then got m c d (j - 8) else iprop(emp)

include hd in
/-- From the eighth message on, the step waits for the message received eight before and then holds it. -/
theorem wp_recvIf (Φ : PUnit → sProp 𝕄) (j : ℕ) (hj : j < 24) (O : CellTallies nD τ sig ℕ) (hO : 8 ≤ j → Over (2 * (j - 8) + 4) O) :
    iprop(ctx m K ∗ recvSt c d (j - 8) ∗ owing c O)
      ⊢ iprop((iprop(held m c d j ∗ recvSt c d (j + 1 - 8) ∗ owing c O) -∗ Φ ⟨⟩) -∗ WP c (whenB (Nat.ble 8 j) (waitRecv d (j - 8))) Φ) := by
  unfold held whenB
  by_cases h : 8 ≤ j
  · rw [if_pos h, ble_true h, cond_true, show j + 1 - 8 = j - 8 + 1 by omega]
    exact wp_waitRecv m K c d hd Φ (j - 8) (by omega) O (hO h)
  · rw [if_neg h, ble_false h, cond_false, show j + 1 - 8 = j - 8 by omega]
    iintro ⟨-, Hr, HO⟩ Hk
    iapply (wp_pure c Φ)
    iapply Hk
    isplitr; · iempintro
    isplitl [Hr]; · iexact Hr
    iexact HO

include hd in
/-- From the second message on, the step waits until the slot's last message has left it. -/
theorem wp_waitIf (Φ : PUnit → sProp 𝕄) (j : ℕ) (hj : j < 24) (O : CellTallies nD τ sig ℕ) (hO : Over 1 O) :
    iprop(ctx m K ∗ slotSt c d (j - 2) j ∗ owing c O)
      ⊢ iprop((iprop(slotSt c d (j + 1 - 2) j ∗ owing c O) -∗ Φ ⟨⟩) -∗ WP c (whenB (Nat.ble 2 j) (waitSend d (j - 2))) Φ) := by
  unfold whenB
  by_cases h : 2 ≤ j
  · rw [ble_true h, cond_true, show j + 1 - 2 = j - 2 + 1 by omega]
    exact wp_waitSend m K c d hd Φ (j - 2) j (by omega) (by omega) (by omega) O hO
  · rw [ble_false h, cond_false, show j + 1 - 2 = j - 2 by omega]
    iintro ⟨-, Hr, HO⟩ Hk
    iapply (wp_pure c Φ)
    iapply Hk
    isplitl [Hr]; · iexact Hr
    iexact HO

include hd in
/-- For the messages from 8 to 21, the step gives the credit of the slot that it has read; for the later ones it keeps the slot. -/
theorem wp_giveIf (Φ : PUnit → sProp 𝕄) (j : ℕ) (hj : j < 24) (O : CellTallies nD τ sig ℕ) :
    iprop(ctx m K ∗ held m c d j ∗ giveSt c d (j - 8) ∗ owing c (O + oweC c d (j - 8)))
      ⊢ iprop((iprop(giveSt c d (j + 1 - 8) ∗ owing c (O + oweC c d (j + 1 - 8))) -∗ Φ ⟨⟩)
          -∗ WP c (whenB (Nat.ble 8 j && Nat.ble j 21) (semSignalWord (srcD d c) (credS d (j - 8)) 1#32)) Φ) := by
  unfold held whenB
  by_cases h : 8 ≤ j
  · rw [if_pos h, ble_true h, show j + 1 - 8 = j - 8 + 1 by omega, Bool.true_and]
    by_cases h' : j ≤ 21
    · rw [ble_true h', cond_true]
      exact wp_give m K c d hd Φ (j - 8) (by omega) O
    · rw [ble_false h', cond_false, oweC_done c d (j - 8) (by omega), oweC_done c d (j - 8 + 1) (by omega)]
      iintro ⟨-, Hg, Hs, HO⟩ Hk
      iapply (wp_pure c Φ)
      iapply Hk
      isplitl [Hg Hs]
      · iapply (give_keep m c d (j - 8) (by omega)); isplitl [Hg] <;> iassumption
      iexact HO
  · rw [if_neg h, ble_false h, Bool.false_and, cond_false, show j + 1 - 8 = j - 8 by omega]
    iintro ⟨-, -, Hr, HO⟩ Hk
    iapply (wp_pure c Φ)
    iapply Hk
    isplitl [Hr]; · iexact Hr
    iexact HO

include hd in
/-- From the tenth message on, the step waits for the credit of its own message, which hands the receiver's slot over. -/
theorem wp_credIf (Φ : PUnit → sProp 𝕄) (j : ℕ) (hj : j < 24) (O : CellTallies nD τ sig ℕ) (hO : Over (2 * j + 3) O) :
    iprop(ctx m K ∗ credSt c d (max j 10) ∗ farSt c d j (max j 10) ∗ owing c O)
      ⊢ iprop((iprop(credSt c d (max (j + 1) 10) ∗ farSt c d j (max (j + 1) 10) ∗ owing c O) -∗ Φ ⟨⟩)
          -∗ WP c (whenB (Nat.ble 10 j) (semWaitWord (credS d j) 1#32)) Φ) := by
  unfold whenB
  by_cases h : 10 ≤ j
  · rw [ble_true h, cond_true, max_eq_left h, max_eq_left (show 10 ≤ j + 1 by omega)]
    exact wp_waitCred m K c d hd Φ j j h hj le_rfl O hO
  · rw [ble_false h, cond_false, max_eq_right (show j ≤ 10 by omega), max_eq_right (show j + 1 ≤ 10 by omega)]
    iintro ⟨-, Hc, Hf, HO⟩ Hk
    iapply (wp_pure c Φ)
    iapply Hk
    isplitl [Hc]; · iexact Hc
    isplitl [Hf]; · iexact Hf
    iexact HO

/-- What a message's slot reads after the store is the rounded sum. -/
theorem cast_payA (y : FVec F S1024x512 .f32) :
    shapeCast S1024x512 (payA y) (Shape.Squeezes.numel_eq squeezes_S1x1x1024x512_S1024x512) = truncf .bf16 y bitsLt_bf16_f32 :=
  shapeCast_shapeCast _ _ _

/-- Building message `j`. -/
theorem wp_build (Φ : PUnit → sProp 𝕄) (j : ℕ) :
    iprop(held m c d j ∗ aAny c d j)
      ⊢ iprop((iprop(held m c d j ∗ aOwn c d j (msg m c d j)) -∗ Φ ⟨⟩) -∗ WP c (build d j (part m c d j)) Φ) := by
  unfold held build
  by_cases h : 8 ≤ j
  · rw [if_pos h, ble_true h, cond_true, wp_seq]
    unfold got
    rw [rOwn_eq, aOwn_eq, aAny_eq]
    iintro ⟨⟨Hr, Hr', Hr''⟩, Ha⟩ Hk
    ihave Hr := (vOwn_unsqueeze c _ _ _ _) $$ Hr
    icases Hr with ⟨%r, %hr, Hr⟩
    iapply (wp_loadOwn c _ _ r) $$ Hr
    iintro Hr
    rw [wp_seq]
    ihave Ha := (vAny_unsqueeze c _ _ _) $$ Ha
    iapply (wp_loadAny c _ _) $$ Ha
    iintro %v Ha
    ihave Ha := (vOwn_any c _ _) $$ Ha
    iapply (wp_storeAny c _ _ _ _) $$ Ha
    iintro Ha
    ihave Ha := (vOwn_squeeze c _ S1024x512 squeezes_S1x1x1024x512_S1024x512 _) $$ Ha
    ihave Hr := (vOwn_squeeze c _ S1024x512 squeezes_S1x1x1024x512_S1024x512 r) $$ Hr
    rw [cast_payA, hr]
    unfold accum
    rw [hr, ← msg_ge m c d j h]
    iapply Hk
    isplitr [Ha]
    · isplitl [Hr]; · iexact Hr
      isplitl [Hr'] <;> iassumption
    iexact Ha
  · rw [if_neg h, ble_false h, cond_false, wp_seq, aOwn_eq, aAny_eq, msg_lt m c d j (by omega)]
    iintro ⟨-, Ha⟩ Hk
    ihave Ha := (vAny_unsqueeze c _ _ _) $$ Ha
    iapply (wp_loadAny c _ _) $$ Ha
    iintro %v Ha
    ihave Ha := (vOwn_any c _ _) $$ Ha
    iapply (wp_storeAny c _ _ _ _) $$ Ha
    iintro Ha
    ihave Ha := (vOwn_squeeze c _ S1024x512 squeezes_S1x1x1024x512_S1024x512 _) $$ Ha
    rw [cast_payA]
    iapply Hk
    isplitr; · iempintro
    iexact Ha

/-- The rounded tiles are numbered from 0 to 7 and then again. -/
theorem bV_mod (t : ℕ) : bV d (t % 8) = bV d t := by
  have h : ∀ o o' : Fin 2 → Nat, o = o' → ∀ h₁ h₂, (bM.slice (Rect.unit (s := S1024x8192) o S1024x512.size h₁) (fun _ => rfl) : Memref sig .tc .vmem S1024x512 .bf16)
      = bM.slice (Rect.unit (s := S1024x8192) o' S1024x512.size h₂) (fun _ => rfl) := by
    rintro o _ rfl _ _; rfl
  exact h _ _ (by unfold col; rw [Nat.mod_mod]) _ _

/-- The first `k` rounded tiles. -/
def bDone (k : ℕ) : sProp 𝕄 := bigSep (Finset.Ico 0 k) (fun i => vOwn c (bV d i) (wTile m c d i))

/-- Loading one of them. -/
theorem wp_loadB (Φ : Vec F S1024x512 .bf16 → sProp 𝕄) (k j : ℕ) (hk : j % 8 < k) (hl) :
    bDone m c d k ⊢ iprop((bDone m c d k -∗ Φ (wTile m c d j)) -∗ WP c (Prog.lift (.load bM (tileR d j).toLoadRect hl)) Φ) := by
  have h : bDone m c d k = iprop(vOwn c (bV d j) (wTile m c d j)
      ∗ bigSep ((Finset.Ico 0 k).erase (j % 8)) (fun i => vOwn c (bV d i) (wTile m c d i))) := by
    unfold bDone
    rw [bigSep_erase (show j % 8 ∈ Finset.Ico 0 k from Finset.mem_Ico.mpr ⟨Nat.zero_le _, hk⟩), bV_mod, wTile_mod]
    rfl
  rw [h]
  iintro ⟨Hb, Hbs⟩ Hk
  iapply (wp_loadOwn c Φ hl (wTile m c d j)) $$ Hb
  iintro Hb
  iapply Hk
  isplitl [Hb] <;> iassumption

/-! ## A message -/

/-- What device `c` holds of direction `d` before message `j`; -/
def dirSt (j : ℕ) : sProp 𝕄 :=
  iprop(recvSt c d (j - 8) ∗ slotSt c d (j - 2) j ∗ giveSt c d (j - 8) ∗ credSt c d (max j 10) ∗ farSt c d j (max j 10) ∗ postSt c d j)
/-- what it owes. -/
def owe (j : ℕ) : CellTallies nD τ sig ℕ := oweC c d (j - 8) + oweV c d j

/-- Before message `j` a direction owes nothing below index `2 j + 3`. -/
theorem owe_over (j : ℕ) : Over (2 * j + 3) (owe c d j) :=
  ((oweC_over c d (j - 8)).mono (by omega)).add (oweV_over c d j)

include hd in
/-- Message `j` of direction `d`. -/
theorem wp_send (Φ : PUnit → sProp 𝕄) (k j : ℕ) (hj : j < 24) (hk : j % 8 < k) (O : CellTallies nD τ sig ℕ) (hO : Over (2 * j + 3) O) :
    iprop(ctx m K ∗ xPts m c ∗ bDone m c d k ∗ dirSt c d j ∗ owing c (O + owe c d j))
      ⊢ iprop((iprop(xPts m c ∗ bDone m c d k ∗ dirSt c d (j + 1) ∗ owing c (O + owe c d (j + 1))) -∗ Φ ⟨⟩)
          -∗ WP c (send (Memref.whole cc0_stg0_0) c d j) Φ) := by
  have hO1 : Over (2 * j + 3) (O + owe c d j) := hO.add (owe_over c d j)
  have hO2 : Over (2 * j + 3) (O + oweV c d j + oweC c d (j + 1 - 8)) :=
    (hO.add (oweV_over c d j)).add ((oweC_over c d (j + 1 - 8)).mono (by omega))
  have hA : O + owe c d j = O + oweV c d j + oweC c d (j - 8) := by unfold owe; rw [add_comm (oweC c d (j - 8)), add_assoc]
  have hB : O + oweV c d j + oweC c d (j + 1 - 8) = O + oweC c d (j + 1 - 8) + oweV c d j := add_right_comm _ _ _
  have hC : O + oweC c d (j + 1 - 8) + oweV c d (j + 1) = O + owe c d (j + 1) := add_assoc _ _ _
  unfold send
  rw [wp_seq]
  unfold dirSt
  iintro ⟨#Hctx, Hx, Hb, ⟨Hrecv, Hslot, Hgive, Hcred, Hfar, Hpost⟩, HO⟩ Hk
  iapply (wp_loadXm m c d _ j _) $$ Hx
  iintro Hx
  rw [wp_seq]
  iapply (wp_loadB m c d _ k j hk _) $$ Hb
  iintro Hb
  rw [wp_seq]
  iapply (wp_recvIf m K c d hd _ j hj _ (fun _ => hO1.mono (by omega))) $$ [Hrecv HO]
  · isplitr; · iexact Hctx
    isplitl [Hrecv] <;> iassumption
  iintro ⟨Hheld, Hrecv, HO⟩
  rw [wp_seq]
  iapply (wp_waitIf m K c d hd _ j hj _ (hO1.mono (by omega))) $$ [Hslot HO]
  · isplitr; · iexact Hctx
    isplitl [Hslot] <;> iassumption
  iintro ⟨Hslot, HO⟩
  rw [wp_seq]
  unfold slotSt
  rw [bigSep_cons (show j < j + 1 - 2 + 2 by omega)]
  icases Hslot with ⟨Hcs, Hat, ⟨Ha, Hreach⟩, Hfree⟩
  iapply (wp_build m c d _ j) $$ [Hheld Ha]
  · isplitl [Hheld] <;> iassumption
  iintro ⟨Hheld, Ha⟩
  rw [wp_seq]
  rw [hA]
  iapply (wp_giveIf m K c d hd _ j hj _) $$ [Hheld Hgive HO]
  · isplitr; · iexact Hctx
    isplitl [Hheld]; · iexact Hheld
    isplitl [Hgive] <;> iassumption
  iintro ⟨Hgive, HO⟩
  rw [wp_seq]
  iapply (wp_credIf m K c d hd _ j hj _ hO2) $$ [Hcred Hfar HO]
  · isplitr; · iexact Hctx
    isplitl [Hcred]; · iexact Hcred
    isplitl [Hfar] <;> iassumption
  iintro ⟨Hcred, Hfar, HO⟩
  rw [hB]
  iapply (wp_post m K c d hd _ (j + 1 - 2) j (max (j + 1) 10) hj (by omega) (lt_of_lt_of_le (Nat.lt_succ_self j) (le_max_left _ _)) _) $$ [Hpost Hfar Ha Hreach Hcs HO]
  · isplitr; · iexact Hctx
    isplitl [Hpost]; · iexact Hpost
    isplitl [Hfar]; · iexact Hfar
    isplitl [Ha]; · iexact Ha
    isplitl [Hreach]; · iexact Hreach
    isplitl [Hcs] <;> iassumption
  iintro ⟨Hpost, Hfar, Hcs, HO⟩
  rw [hC]
  iapply Hk
  isplitl [Hx]; · iexact Hx
  isplitl [Hb]; · iexact Hb
  isplitr [HO]
  · isplitl [Hrecv]; · iexact Hrecv
    isplitl [Hcs Hat Hfree]
    · isplitl [Hcs]; · iexact Hcs
      isplitl [Hat]; · iexact Hat
      iexact Hfree
    isplitl [Hgive]; · iexact Hgive
    isplitl [Hcred]; · iexact Hcred
    isplitl [Hfar] <;> iassumption
  iexact HO

/-! ## A tile of the result -/

/-- What device `c` holds of direction `d` before tile `t` of the result. -/
def outSt (t : ℕ) : sProp 𝕄 := iprop(recvSt c d (16 + t) ∗ giveSt c d (16 + t) ∗ oSt m c d t)

/-- From the second tile on, the step waits until the tile before has been written out. -/
theorem wp_waitOutIf (Φ : PUnit → sProp 𝕄) (t : ℕ) (O : CellTallies nD τ sig ℕ) (hO : Over 1 O) :
    iprop(ctx m K ∗ oSt m c d t ∗ owing c O)
      ⊢ iprop((iprop(oIdle m c d t ∗ owing c O) -∗ Φ ⟨⟩) -∗ WP c (whenB (Nat.ble 1 t) (waitOut d (t - 1))) Φ) := by
  unfold whenB
  cases t with
  | zero =>
    unfold oSt
    rw [ble_false (by omega), cond_false]
    iintro ⟨-, H, HO⟩ Hk
    iapply (wp_pure c Φ)
    iapply Hk
    isplitl [H] <;> iassumption
  | succ t =>
    unfold oSt
    rw [ble_true (by omega), cond_true]
    exact wp_waitOut m K c d Φ t O hO

/-- What the results' stage reads after the store is the epilogue of the sum. -/
theorem cast_payO (y : FVec F S1024x512 .f32) :
    shapeCast S1024x512 (payO y) (Shape.Squeezes.numel_eq squeezes_S1x1024x512_S1024x512) = silu y :=
  shapeCast_shapeCast _ _ _

include hd in
/-- Tile `t` of direction `d`. -/
theorem wp_outTile (Φ : PUnit → sProp 𝕄) (t : ℕ) (ht : t < 8) :
    iprop(ctx m K ∗ xPts m c ∗ bDone m c d 8 ∗ outSt m c d t ∗ owing c 0)
      ⊢ iprop((iprop(xPts m c ∗ bDone m c d 8 ∗ outSt m c d (t + 1) ∗ owing c 0) -∗ Φ ⟨⟩)
          -∗ WP c (outTile (Memref.whole cc0_stg0_0) c d t) Φ) := by
  unfold outTile
  rw [wp_seq]
  unfold outSt
  iintro ⟨#Hctx, Hx, Hb, ⟨Hrecv, Hgive, Ho⟩, HO⟩ Hk
  iapply (wp_loadXo m c _ _) $$ Hx
  iintro Hx
  rw [wp_seq]
  iapply (wp_loadB m c d _ 8 t (by omega) _) $$ Hb
  iintro Hb
  rw [wp_seq]
  iapply (wp_waitRecv m K c d hd _ (16 + t) (by omega) 0 (Over.zero _)) $$ [Hrecv HO]
  · isplitr; · iexact Hctx
    isplitl [Hrecv] <;> iassumption
  unfold got
  rw [rOwn_eq]
  iintro ⟨⟨Hr, Hr', Hr''⟩, Hrecv, HO⟩
  rw [wp_seq]
  ihave Hr := (vOwn_unsqueeze c _ _ _ _) $$ Hr
  icases Hr with ⟨%r, %hr, Hr⟩
  iapply (wp_loadOwn c _ _ r) $$ Hr
  iintro Hr
  ihave Hr := (vOwn_squeeze c _ S1024x512 squeezes_S1x1x1024x512_S1024x512 r) $$ Hr
  rw [wp_seq]
  iapply (wp_waitOutIf m K c d _ t 0 (Over.zero _)) $$ [Ho HO]
  · isplitr; · iexact Hctx
    isplitl [Ho] <;> iassumption
  unfold oIdle
  iintro ⟨⟨Ho, Ho', Hu, Hv⟩, HO⟩
  rw [wp_seq]
  ihave Hu := (vAny_unsqueeze c _ _ _) $$ Hu
  iapply (wp_loadAny c _ _) $$ Hu
  iintro %v Hu
  rw [wp_seq]
  ihave Hu := (vOwn_any c _ _) $$ Hu
  iapply (wp_storeAny c _ _ _ _) $$ Hu
  iintro Hu
  ihave Hu := (vOwn_squeeze c _ S1024x512 squeezes_S1x1024x512_S1024x512 _) $$ Hu
  rw [cast_payO]
  unfold accum
  rw [hr]
  iapply (wp_putOut m c d _ t ht _ _ _) $$ [Ho Ho' Hu Hv]
  · isplitl [Ho]; · iexact Ho
    isplitl [Ho']; · iexact Ho'
    isplitl [Hu]; · unfold res; iexact Hu
    iexact Hv
  iintro Ho
  iapply Hk
  isplitl [Hx]; · iexact Hx
  isplitl [Hb]; · iexact Hb
  isplitr [HO]
  · isplitl [Hrecv]; · iexact Hrecv
    isplitl [Hr Hr' Hr'' Hgive]
    · iapply (give_keep m c d (16 + t) (by omega))
      isplitr [Hgive]
      · unfold got
        rw [rOwn_eq]
        isplitl [Hr]; · iexact Hr
        isplitl [Hr'] <;> iassumption
      iexact Hgive
    unfold oSt; iexact Ho
  iexact HO

end Cert.RingProof

end
-- ==== Proof.Body.lean ====
/- The body from beginning to end, on any device. -/
module

public import proofs.«01_k».proof.Proof.Send

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : GSem nD τ sig → ℕ) (c : Dev nD)

/-! ## The barrier -/

/-- A row of assertions with one more index is that one's assertion and the row. -/
theorem bigSep_ins {I : Type} [DecidableEq I] {i : I} {s : Finset I} (h : i ∉ s) (Φ : I → sProp 𝕄) :
    bigSep (insert i s) Φ = iprop(Φ i ∗ bigSep s Φ) := bigSep_insert h
/-- A row over no index is empty. -/
theorem bigSep_none {I : Type} (Φ : I → sProp 𝕄) : bigSep ∅ Φ = iprop(emp) := bigSep_empty

/-- What lasts may be used for every one of a row. -/
theorem bigSep_with {I : Type} [DecidableEq I] (P : sProp 𝕄) [BI.Persistent P] (s : Finset I) (Φ Ψ : I → sProp 𝕄)
    (h : ∀ i ∈ s, iprop(P ∗ Φ i) ⊢ Ψ i) : iprop(P ∗ bigSep s Φ) ⊢ bigSep s Ψ := by
  induction s using Finset.induction_on with
  | empty =>
    rw [bigSep_none, bigSep_none]
    iintro ⟨-, H⟩; iexact H
  | insert i s hi ih =>
    rw [bigSep_ins hi, bigSep_ins hi]
    iintro ⟨#HP, Hi, Hs⟩
    isplitl [Hi]
    · iapply (h i (Finset.mem_insert_self _ _)); isplitr; · iexact HP
      iexact Hi
    · iapply (ih fun k hk => h k (Finset.mem_insert_of_mem hk)); isplitr; · iexact HP
      iexact Hs

/-- The right to begin: to tell both neighbours, and to wait for both. -/
def barSt : sProp 𝕄 :=
  iprop(dutyTok ER (barC (leftD c)) 0 false ∗ dutyTok ER (barC (rightD c)) 0 true ∗ atPos ER (barC c) 0 ∅ 0 ∗ cred (tallyAt (barC c) 1 2))
/-- The ten slots into which messages of direction `d` come. -/
def rSlots (d : ℕ) : sProp 𝕄 := bigSep (Finset.Ico 0 10) (fun q => rAny c d q)

/-- What one of the two payers of the barrier lays down. -/
theorem barPay_of (g : Dev nD) (d : ℕ) (h : tgtD d g = c) : iprop(ctx m K ∗ rSlots c d) ⊢ (barPay g d : sProp 𝕄) := by
  unfold rSlots barPay credPay
  rw [h]
  refine bigSep_with (ctx m K) (Finset.Ico 0 10) _ _ fun q hq => ?_
  rw [Nat.div_eq_of_lt (Finset.mem_Ico.mp hq).2]
  iintro ⟨#Hctx, H⟩
  isplitl [H]; · iexact H
  iapply (ctx_reached m K (mem_recv c d q)); iexact Hctx

/-- The device after the one on the left of `c` is `c`; -/
theorem tgt_left : tgtD 0 (leftD c) = c := tgt_src 0 c
/-- and the other way round on the right. -/
theorem tgt_right : tgtD 1 (rightD c) = c := tgt_src 1 c

/-- What the barrier gives in one direction. -/
theorem far_of (d : ℕ) : iprop(ctx m K ∗ barPay c d) ⊢ (farSt c d 0 10 : sProp 𝕄) := by
  unfold barPay farSt
  refine bigSep_with (ctx m K) (Finset.Ico 0 10) _ _ fun q hq => ?_
  rw [Nat.div_eq_of_lt (Finset.mem_Ico.mp hq).2]
  iintro ⟨#Hctx, H⟩
  isplitl [H]; · iexact H
  iapply (ctx_reached m K (mem_cred c d q)); iexact Hctx

/-- Telling both neighbours, and waiting for both. -/
theorem wp_barrier (Φ : PUnit → sProp 𝕄) (O : CellTallies nD τ sig ℕ) (hO : Over 2 O) :
    iprop(ctx m K ∗ barSt c ∗ rSlots c 0 ∗ rSlots c 1 ∗ owing c (O + tallyAt (barC (rightD c)) 1 1 + tallyAt (barC (leftD c)) 1 1))
      ⊢ iprop((iprop(atPos ER (barC c) 1 ∅ 0 ∗ farSt c 0 0 10 ∗ farSt c 1 0 10 ∗ owing c O) -∗ Φ ⟨⟩) -∗ WP c (barrier c) Φ) := by
  unfold barrier
  rw [wp_seq]
  unfold barSt owing
  iintro ⟨#Hctx, ⟨Ht₀, Ht₁, Hat, Hc⟩, Hs₀, Hs₁, ⟨%W, HO⟩⟩ Hk
  unfold semSignalWord
  iapply (Rounds.wp_signal 𝒱₀ ER (sched m) (c : Thread nD τ) none (dst := (leftD c : Thread nD τ)) (κ := K (barC (leftD c)))
      (sem := barS) (r := 0) (d := false) (k' := 1) (by rw [duties_bar]; exact Finset.mem_univ _)
      (amount_bar m (leftD c) _ _) 1 (O + tallyAt (barC (rightD c)) 1 1) rfl) $$ [HO Ht₀ Hs₀]
  · isplitr; · iapply (ctx_cell m K (mem_bar (leftD c))); iexact Hctx
    isplitl [HO]; · iexact HO
    isplitl [Ht₀]; · iexact Ht₀
    isplitl [Hs₀]
    · rw [payload_bar]
      iapply (barPay_of m K c (leftD c) 0 (tgt_left c))
      isplitr; · iexact Hctx
      iexact Hs₀
    · iapply (ctx_reached m K (mem_bar (leftD c))); iexact Hctx
  iintro HO
  rw [wp_ret]; imodintro
  rw [wp_seq]
  iapply (Rounds.wp_signal 𝒱₀ ER (sched m) (c : Thread nD τ) none (dst := (rightD c : Thread nD τ)) (κ := K (barC (rightD c)))
      (sem := barS) (r := 0) (d := true) (k' := 1) (by rw [duties_bar]; exact Finset.mem_univ _)
      (amount_bar m (rightD c) _ _) 1 O rfl) $$ [HO Ht₁ Hs₁]
  · isplitr; · iapply (ctx_cell m K (mem_bar (rightD c))); iexact Hctx
    isplitl [HO]; · iexact HO
    isplitl [Ht₁]; · iexact Ht₁
    isplitl [Hs₁]
    · rw [payload_bar]
      iapply (barPay_of m K c (rightD c) 1 (tgt_right c))
      isplitr; · iexact Hctx
      iexact Hs₁
    · iapply (ctx_reached m K (mem_bar (rightD c))); iexact Hctx
  iintro HO
  rw [wp_ret]; imodintro
  unfold semWaitWord
  iapply (Rounds.wp_wait_rest_token 𝒱₀ ER (sched m) (c : Thread nD τ) none (κ := K (barC c))
      (wpE_semWait_eq 𝒱₀ (c : Thread nD τ) none Set.univ) (Set.mem_univ _) 1 (O := O) (W := W) (R := 0) (m := 0) (T := ∅)
      (by rw [Nat.zero_add, expect_bar]; decide)) $$ [Hc HO Hat]
  · isplitr; · iapply (ctx_cell m K (mem_bar c)); iexact Hctx
    isplitl [Hc]; · iexact Hc
    isplitl [HO]; · iexact HO
    isplitr
    · iapply (mayWait c (.reg barS) (show 1 < 2 by decide) (by decide) hO); iapply (ctx_levs m K); iexact Hctx
    iexact Hat
  rw [Finset.sdiff_empty, duties_bar, show (Finset.univ : Finset Bool) = insert false {true} from by decide,
    bigSep_ins (by decide), bigSep_singleton, payload_bar, payload_bar]
  iintro ⟨HO, Hat, -, Hp₀, Hp₁⟩
  rw [wp_ret]; imodintro
  iapply Hk
  isplitl [Hat]; · iexact Hat
  isplitl [Hp₀]
  · iapply (far_of m K c 0); isplitr; · iexact Hctx
    iexact Hp₀
  isplitl [Hp₁]
  · iapply (far_of m K c 1); isplitr; · iexact Hctx
    iexact Hp₁
  iexists _; iexact HO

/-! ## Rounds -/

/-- Rounds of a step that keeps an invariant. -/
theorem wp_rounds (I : ℕ → sProp 𝕄) (f : ℕ → PR F PUnit) (n : ℕ) : ∀ (k : ℕ) (Φ : PUnit → sProp 𝕄),
    (∀ j, k ≤ j → j < k + n → ∀ Ψ : PUnit → sProp 𝕄, I j ⊢ iprop((I (j + 1) -∗ Ψ ⟨⟩) -∗ WP c (f j) Ψ)) →
    I k ⊢ iprop((I (k + n) -∗ Φ ⟨⟩) -∗ WP c (rounds f k n) Φ) := by
  induction n with
  | zero =>
    intro k Φ _
    unfold rounds
    rw [Nat.add_zero]
    iintro H Hk
    iapply (wp_pure c Φ)
    iapply Hk; iexact H
  | succ n ih =>
    intro k Φ h
    unfold rounds
    rw [wp_seq]
    iintro H Hk
    iapply (h k le_rfl (by omega) _) $$ H
    iintro H
    iapply (ih (k + 1) Φ fun j h₁ h₂ => h j (by omega) (by omega)) $$ H
    rw [show k + 1 + n = k + (n + 1) by omega]
    iexact Hk

/-- Before round `j` of the first eight; -/
def stA (j : ℕ) : sProp 𝕄 :=
  iprop(ctx m K ∗ xPts m c ∗ (wSt m c 0 j ∗ bSt m c 0 j ∗ dirSt c 0 j) ∗ (wSt m c 1 j ∗ bSt m c 1 j ∗ dirSt c 1 j) ∗ owing c (owe c 0 j + owe c 1 j))
/-- of the next sixteen; -/
def stB (j : ℕ) : sProp 𝕄 :=
  iprop(ctx m K ∗ xPts m c ∗ (bDone m c 0 8 ∗ dirSt c 0 j) ∗ (bDone m c 1 8 ∗ dirSt c 1 j) ∗ owing c (owe c 0 j + owe c 1 j))
/-- of the last eight. -/
def stC (t : ℕ) : sProp 𝕄 :=
  iprop(ctx m K ∗ xPts m c ∗ (bDone m c 0 8 ∗ outSt m c 0 t) ∗ (bDone m c 1 8 ∗ outSt m c 1 t) ∗ owing c 0)

/-- A round of two messages takes both directions from message `j` to the next, once the tile it multiplies has been rounded. -/
theorem wp_roundB (j : ℕ) (h : j < 24) (k : ℕ) (hk : j % 8 < k) (Φ : PUnit → sProp 𝕄) :
    iprop(ctx m K ∗ xPts m c ∗ (bDone m c 0 k ∗ dirSt c 0 j) ∗ (bDone m c 1 k ∗ dirSt c 1 j) ∗ owing c (owe c 0 j + owe c 1 j))
      ⊢ iprop((iprop(xPts m c ∗ (bDone m c 0 k ∗ dirSt c 0 (j + 1)) ∗ (bDone m c 1 k ∗ dirSt c 1 (j + 1)) ∗ owing c (owe c 0 (j + 1) + owe c 1 (j + 1))) -∗ Φ ⟨⟩)
          -∗ WP c (roundB (Memref.whole cc0_stg0_0) c j) Φ) := by
  unfold roundB
  rw [wp_seq]
  iintro ⟨#Hctx, Hx, ⟨Hb₀, Hd₀⟩, ⟨Hb₁, Hd₁⟩, HO⟩ Hk
  rw [add_comm (owe c 0 j)]
  iapply (wp_send m K c 0 (by decide) _ k j h hk (owe c 1 j) (owe_over c 1 j)) $$ [Hx Hb₀ Hd₀ HO]
  · isplitr; · iexact Hctx
    isplitl [Hx]; · iexact Hx
    isplitl [Hb₀]; · iexact Hb₀
    isplitl [Hd₀] <;> iassumption
  iintro ⟨Hx, Hb₀, Hd₀, HO⟩
  rw [add_comm (owe c 1 j)]
  iapply (wp_send m K c 1 (by decide) _ k j h hk (owe c 0 (j + 1)) ((owe_over c 0 (j + 1)).mono (by omega))) $$ [Hx Hb₁ Hd₁ HO]
  · isplitr; · iexact Hctx
    isplitl [Hx]; · iexact Hx
    isplitl [Hb₁]; · iexact Hb₁
    isplitl [Hd₁] <;> iassumption
  iintro ⟨Hx, Hb₁, Hd₁, HO⟩
  iapply Hk
  isplitl [Hx]; · iexact Hx
  isplitl [Hb₀ Hd₀]; · isplitl [Hb₀] <;> iassumption
  isplitl [Hb₁ Hd₁]; · isplitl [Hb₁] <;> iassumption
  iexact HO

/-- Round `j` of the first eight goes from its state to the next; -/
theorem wp_roundA (j : ℕ) (h : j < 8) (Φ : PUnit → sProp 𝕄) :
    stA m K c j ⊢ iprop((stA m K c (j + 1) -∗ Φ ⟨⟩) -∗ WP c (roundA (Memref.whole cc0_stg0_0) c j) Φ) := by
  have hO : Over 1 (owe c 0 j + owe c 1 j) := ((owe_over c 0 j).mono (by omega)).add ((owe_over c 1 j).mono (by omega))
  unfold stA roundA
  rw [wp_seq, show wSt m c 0 j = wFly m c 0 j from if_pos h, show wSt m c 1 j = wFly m c 1 j from if_pos h]
  iintro ⟨#Hctx, Hx, ⟨Hw₀, Hb₀, Hd₀⟩, ⟨Hw₁, Hb₁, Hd₁⟩, HO⟩ Hk
  iapply (wp_finish m K c 0 _ j h _ hO) $$ [Hw₀ Hb₀ HO]
  · isplitr; · iexact Hctx
    isplitl [Hw₀]; · iexact Hw₀
    isplitl [Hb₀] <;> iassumption
  iintro ⟨Hw₀, Hb₀, HO⟩
  rw [wp_seq]
  iapply (wp_finish m K c 1 _ j h _ hO) $$ [Hw₁ Hb₁ HO]
  · isplitr; · iexact Hctx
    isplitl [Hw₁]; · iexact Hw₁
    isplitl [Hb₁] <;> iassumption
  iintro ⟨Hw₁, Hb₁, HO⟩
  unfold bSt
  icases Hb₀ with ⟨Hb₀, Hb₀'⟩
  icases Hb₁ with ⟨Hb₁, Hb₁'⟩
  iapply (show iprop(WP c (roundB (Memref.whole cc0_stg0_0) c j) Φ) ⊢ _ from .rfl)
  iapply (wp_roundB m K c j (by omega) (j + 1) (by omega) Φ) $$ [Hx Hb₀ Hb₁ Hd₀ Hd₁ HO]
  · isplitr; · iexact Hctx
    isplitl [Hx]; · iexact Hx
    unfold bDone
    isplitl [Hb₀ Hd₀]; · isplitl [Hb₀] <;> iassumption
    isplitl [Hb₁ Hd₁]; · isplitl [Hb₁] <;> iassumption
    iexact HO
  unfold bDone
  iintro ⟨Hx, ⟨Hb₀, Hd₀⟩, ⟨Hb₁, Hd₁⟩, HO⟩
  iapply Hk
  isplitr; · iexact Hctx
  isplitl [Hx]; · iexact Hx
  isplitl [Hw₀ Hb₀ Hb₀' Hd₀]
  · isplitl [Hw₀]; · iexact Hw₀
    isplitr [Hd₀]; · isplitl [Hb₀] <;> iassumption
    iexact Hd₀
  isplitl [Hw₁ Hb₁ Hb₁' Hd₁]
  · isplitl [Hw₁]; · iexact Hw₁
    isplitr [Hd₁]; · isplitl [Hb₁] <;> iassumption
    iexact Hd₁
  iexact HO

/-- so does round `j` of the next sixteen -/
theorem wp_roundB' (j : ℕ) (h : j < 24) (Φ : PUnit → sProp 𝕄) :
    stB m K c j ⊢ iprop((stB m K c (j + 1) -∗ Φ ⟨⟩) -∗ WP c (roundB (Memref.whole cc0_stg0_0) c j) Φ) := by
  unfold stB
  iintro ⟨#Hctx, H⟩ Hk
  iapply (wp_roundB m K c j h 8 (by omega) Φ) $$ [H]
  · isplitr; · iexact Hctx
    iexact H
  iintro H
  iapply Hk
  isplitr; · iexact Hctx
  iexact H

/-- and round `t` of the last eight. -/
theorem wp_roundC (t : ℕ) (h : t < 8) (Φ : PUnit → sProp 𝕄) :
    stC m K c t ⊢ iprop((stC m K c (t + 1) -∗ Φ ⟨⟩) -∗ WP c (roundC (Memref.whole cc0_stg0_0) c t) Φ) := by
  unfold stC roundC
  rw [wp_seq]
  iintro ⟨#Hctx, Hx, ⟨Hb₀, Hd₀⟩, ⟨Hb₁, Hd₁⟩, HO⟩ Hk
  iapply (wp_outTile m K c 0 (by decide) _ t h) $$ [Hx Hb₀ Hd₀ HO]
  · isplitr; · iexact Hctx
    isplitl [Hx]; · iexact Hx
    isplitl [Hb₀]; · iexact Hb₀
    isplitl [Hd₀] <;> iassumption
  iintro ⟨Hx, Hb₀, Hd₀, HO⟩
  iapply (wp_outTile m K c 1 (by decide) _ t h) $$ [Hx Hb₁ Hd₁ HO]
  · isplitr; · iexact Hctx
    isplitl [Hx]; · iexact Hx
    isplitl [Hb₁]; · iexact Hb₁
    isplitl [Hd₁] <;> iassumption
  iintro ⟨Hx, Hb₁, Hd₁, HO⟩
  iapply Hk
  isplitr; · iexact Hctx
  isplitl [Hx]; · iexact Hx
  isplitl [Hb₀ Hd₀]; · isplitl [Hb₀] <;> iassumption
  isplitl [Hb₁ Hd₁]; · isplitl [Hb₁] <;> iassumption
  iexact HO

/-! ## The whole body -/

/-- What device `c` begins with in direction `d`; -/
def sidePre (d : ℕ) : sProp 𝕄 :=
  iprop(wIdle m c d 0 ∗ bSt m c d 0 ∗ oIdle m c d 0 ∗ rSlots c d ∗ recvSt c d 0 ∗ slotSt c d 0 0 ∗ giveSt c d 0 ∗ credSt c d 10 ∗ postSt c d 0)
/-- what it ends with. -/
def sidePost (d : ℕ) : sProp 𝕄 :=
  iprop(wIdle m c d 8 ∗ bDone m c d 8 ∗ oIdle m c d 8 ∗ recvSt c d 24 ∗ slotSt c d 24 24 ∗ giveSt c d 24 ∗ credSt c d 24)

/-- What a device owes when it begins. -/
def owed : CellTallies nD τ sig ℕ := owe c 0 0 + owe c 1 0 + tallyAt (barC (rightD c)) 1 1 + tallyAt (barC (leftD c)) 1 1

/-- When all messages are sent, a direction has eight still to receive and two still to leave their slots. -/
theorem dirSt_last (d : ℕ) : dirSt c d 24 ⊢ (iprop(recvSt c d 16 ∗ slotSt c d 22 24 ∗ giveSt c d 16 ∗ credSt c d 24) : sProp 𝕄) := by
  unfold dirSt
  iintro ⟨Hr, Hs, Hg, Hc, -, -⟩
  isplitl [Hr]; · iexact Hr
  isplitl [Hs]; · iexact Hs
  isplitl [Hg]; · iexact Hg
  iexact Hc

/-- Asking which device this is. -/
theorem wp_device (Φ : Dev nD → sProp 𝕄) : iprop(Φ c) ⊢ WP c (Prog.lift .deviceId) Φ := by
  iintro H
  unfold Prog.lift WP
  rw [wp_deviceId, wp_ret]; imodintro; iexact H

/-- The body. -/
theorem wp_steps (Φ : PUnit → sProp 𝕄) :
    iprop(ctx m K ∗ xPts m c ∗ sidePre m c 0 ∗ sidePre m c 1 ∗ barSt c ∗ owing c (owed c))
      ⊢ iprop((iprop(xPts m c ∗ sidePost m c 0 ∗ sidePost m c 1 ∗ atPos ER (barC c) 1 ∅ 0 ∗ owing c 0) -∗ Φ ⟨⟩)
          -∗ WP c (steps (Memref.whole cc0_stg0_0)) Φ) := by
  have hO : Over 2 (owe c 0 0 + owe c 1 0) := ((owe_over c 0 0).mono (by omega)).add ((owe_over c 1 0).mono (by omega))
  unfold steps sidePre sidePost owed
  rw [wp_seq]
  iintro ⟨#Hctx, Hx, ⟨Hw₀, Hb₀, Ho₀, Hs₀, Hrecv₀, Hslot₀, Hgive₀, Hcred₀, Hpost₀⟩, ⟨Hw₁, Hb₁, Ho₁, Hs₁, Hrecv₁, Hslot₁, Hgive₁, Hcred₁, Hpost₁⟩, Hbar, HO⟩ Hk
  iapply (wp_device c _)
  rw [wp_seq]
  iapply (wp_start m c 0 _ 0 (by decide)) $$ Hw₀
  iintro Hw₀
  rw [wp_seq]
  iapply (wp_start m c 1 _ 0 (by decide)) $$ Hw₁
  iintro Hw₁
  rw [wp_seq]
  iapply (wp_barrier m K c _ _ hO) $$ [Hbar Hs₀ Hs₁ HO]
  · isplitr; · iexact Hctx
    isplitl [Hbar]; · iexact Hbar
    isplitl [Hs₀]; · iexact Hs₀
    isplitl [Hs₁] <;> iassumption
  iintro ⟨Hat, Hf₀, Hf₁, HO⟩
  rw [wp_seq]
  iapply (wp_rounds c (stA m K c) (roundA (Memref.whole cc0_stg0_0) c) 8 0 _ fun j _ h => wp_roundA m K c j (by omega))
    $$ [Hx Hw₀ Hb₀ Hrecv₀ Hslot₀ Hgive₀ Hcred₀ Hpost₀ Hw₁ Hb₁ Hrecv₁ Hslot₁ Hgive₁ Hcred₁ Hpost₁ Hf₀ Hf₁ HO]
  · unfold stA dirSt
    rw [show ∀ d, wSt m c d 0 = wFly m c d 0 from fun d => if_pos (by decide), show ∀ d, wSt m c d 0 = wFly m c d 0 from fun d => if_pos (by decide)]
    isplitr; · iexact Hctx
    isplitl [Hx]; · iexact Hx
    isplitl [Hw₀ Hb₀ Hrecv₀ Hslot₀ Hgive₀ Hcred₀ Hpost₀ Hf₀]
    · isplitl [Hw₀]; · iexact Hw₀
      isplitl [Hb₀]; · iexact Hb₀
      isplitl [Hrecv₀]; · iexact Hrecv₀
      isplitl [Hslot₀]; · iexact Hslot₀
      isplitl [Hgive₀]; · iexact Hgive₀
      isplitl [Hcred₀]; · iexact Hcred₀
      isplitl [Hf₀]; · iexact Hf₀
      iexact Hpost₀
    isplitl [Hw₁ Hb₁ Hrecv₁ Hslot₁ Hgive₁ Hcred₁ Hpost₁ Hf₁]
    · isplitl [Hw₁]; · iexact Hw₁
      isplitl [Hb₁]; · iexact Hb₁
      isplitl [Hrecv₁]; · iexact Hrecv₁
      isplitl [Hslot₁]; · iexact Hslot₁
      isplitl [Hgive₁]; · iexact Hgive₁
      isplitl [Hcred₁]; · iexact Hcred₁
      isplitl [Hf₁]; · iexact Hf₁
      iexact Hpost₁
    iexact HO
  rw [Nat.zero_add]
  unfold stA bSt
  rw [show wSt m c 0 8 = wIdle m c 0 8 from if_neg (by decide), show wSt m c 1 8 = wIdle m c 1 8 from if_neg (by decide)]
  iintro ⟨-, Hx, ⟨Hw₀, ⟨Hb₀, -⟩, Hd₀⟩, ⟨Hw₁, ⟨Hb₁, -⟩, Hd₁⟩, HO⟩
  rw [wp_seq]
  iapply (wp_rounds c (stB m K c) (roundB (Memref.whole cc0_stg0_0) c) 16 8 _ fun j _ h => wp_roundB' m K c j (by omega))
    $$ [Hx Hb₀ Hd₀ Hb₁ Hd₁ HO]
  · unfold stB bDone
    isplitr; · iexact Hctx
    isplitl [Hx]; · iexact Hx
    isplitl [Hb₀ Hd₀]; · isplitl [Hb₀] <;> iassumption
    isplitl [Hb₁ Hd₁]; · isplitl [Hb₁] <;> iassumption
    iexact HO
  rw [show 8 + 16 = 24 from rfl]
  unfold stB
  iintro ⟨-, Hx, ⟨Hb₀, Hd₀⟩, ⟨Hb₁, Hd₁⟩, HO⟩
  ihave Hd₀ := (dirSt_last c 0) $$ Hd₀
  ihave Hd₁ := (dirSt_last c 1) $$ Hd₁
  icases Hd₀ with ⟨Hrecv₀, Hslot₀, Hgive₀, Hcred₀⟩
  icases Hd₁ with ⟨Hrecv₁, Hslot₁, Hgive₁, Hcred₁⟩
  have h0 : owe c 0 24 + owe c 1 24 = 0 := by
    unfold owe
    rw [oweV_done c 0 24 (by omega), oweV_done c 1 24 (by omega), oweC_done c 0 _ (by omega), oweC_done c 1 _ (by omega)]; simp only [add_zero]
  rw [h0, wp_seq]
  iapply (wp_rounds c (stC m K c) (roundC (Memref.whole cc0_stg0_0) c) 8 0 _ fun j _ h => wp_roundC m K c j (by omega))
    $$ [Hx Hb₀ Hrecv₀ Hgive₀ Ho₀ Hb₁ Hrecv₁ Hgive₁ Ho₁ HO]
  · unfold stC outSt oSt
    isplitr; · iexact Hctx
    isplitl [Hx]; · iexact Hx
    isplitl [Hb₀ Hrecv₀ Hgive₀ Ho₀]
    · isplitl [Hb₀]; · iexact Hb₀
      isplitl [Hrecv₀]; · iexact Hrecv₀
      isplitl [Hgive₀] <;> iassumption
    isplitl [Hb₁ Hrecv₁ Hgive₁ Ho₁]
    · isplitl [Hb₁]; · iexact Hb₁
      isplitl [Hrecv₁]; · iexact Hrecv₁
      isplitl [Hgive₁] <;> iassumption
    iexact HO
  rw [Nat.zero_add]
  unfold stC outSt oSt
  iintro ⟨-, Hx, ⟨Hb₀, Hrecv₀, Hgive₀, Ho₀⟩, ⟨Hb₁, Hrecv₁, Hgive₁, Ho₁⟩, HO⟩
  unfold tailWaits
  rw [wp_seq]
  iapply (wp_waitOut m K c 0 _ 7 0 (Over.zero _)) $$ [Ho₀ HO]
  · isplitr; · iexact Hctx
    isplitl [Ho₀] <;> iassumption
  iintro ⟨Ho₀, HO⟩
  rw [wp_seq]
  iapply (wp_waitOut m K c 1 _ 7 0 (Over.zero _)) $$ [Ho₁ HO]
  · isplitr; · iexact Hctx
    isplitl [Ho₁] <;> iassumption
  iintro ⟨Ho₁, HO⟩
  rw [wp_seq]
  iapply (wp_waitSend m K c 0 (by decide) _ 22 24 (by decide) (by decide) (by decide) 0 (Over.zero _)) $$ [Hslot₀ HO]
  · isplitr; · iexact Hctx
    isplitl [Hslot₀] <;> iassumption
  iintro ⟨Hslot₀, HO⟩
  rw [wp_seq]
  iapply (wp_waitSend m K c 0 (by decide) _ 23 24 (by decide) (by decide) (by decide) 0 (Over.zero _)) $$ [Hslot₀ HO]
  · isplitr; · iexact Hctx
    isplitl [Hslot₀] <;> iassumption
  iintro ⟨Hslot₀, HO⟩
  rw [wp_seq]
  iapply (wp_waitSend m K c 1 (by decide) _ 22 24 (by decide) (by decide) (by decide) 0 (Over.zero _)) $$ [Hslot₁ HO]
  · isplitr; · iexact Hctx
    isplitl [Hslot₁] <;> iassumption
  iintro ⟨Hslot₁, HO⟩
  iapply (wp_waitSend m K c 1 (by decide) _ 23 24 (by decide) (by decide) (by decide) 0 (Over.zero _)) $$ [Hslot₁ HO]
  · isplitr; · iexact Hctx
    isplitl [Hslot₁] <;> iassumption
  iintro ⟨Hslot₁, HO⟩
  iapply Hk
  isplitl [Hx]; · iexact Hx
  isplitl [Hw₀ Hb₀ Ho₀ Hrecv₀ Hslot₀ Hgive₀ Hcred₀]
  · isplitl [Hw₀]; · iexact Hw₀
    isplitl [Hb₀]; · iexact Hb₀
    isplitl [Ho₀]; · iexact Ho₀
    isplitl [Hrecv₀]; · iexact Hrecv₀
    isplitl [Hslot₀]; · iexact Hslot₀
    isplitl [Hgive₀] <;> iassumption
  isplitl [Hw₁ Hb₁ Ho₁ Hrecv₁ Hslot₁ Hgive₁ Hcred₁]
  · isplitl [Hw₁]; · iexact Hw₁
    isplitl [Hb₁]; · iexact Hb₁
    isplitl [Ho₁]; · iexact Ho₁
    isplitl [Hrecv₁]; · iexact Hrecv₁
    isplitl [Hslot₁]; · iexact Hslot₁
    isplitl [Hgive₁] <;> iassumption
  isplitl [Hat] <;> iassumption

end Cert.RingProof

end
-- ==== Proof.Buffers.lean ====
/- The buffers of a device, taken apart into the tiles and slots that the body works on, and put
   together again. -/
module

public import proofs.«01_k».proof.Proof.Body
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : GSem nD τ sig → ℕ) (c : Dev nD)

/-! ## Rows of assertions -/

/-- A row over the numbers below `n`. -/
theorem bigSep_fin_Ico {n : ℕ} (Φ : ℕ → sProp 𝕄) : bigSep Finset.univ (fun t : Fin n => Φ t) = bigSep (Finset.Ico 0 n) Φ := by
  have h : Finset.Ico 0 n = Finset.univ.map (Fin.valEmbedding (n := n)) := by
    ext i
    simp only [Finset.mem_Ico, Finset.mem_map, Finset.mem_univ, true_and, Fin.valEmbedding_apply]
    exact ⟨fun h => ⟨⟨i, h.2⟩, rfl⟩, fun ⟨a, ha⟩ => ⟨Nat.zero_le _, ha ▸ a.2⟩⟩
  rw [h, bigSep_map]; rfl

/-- A row over two indices is its two assertions. -/
theorem bigSep_two (Φ : Fin 2 → sProp 𝕄) : bigSep Finset.univ Φ = iprop(Φ 0 ∗ Φ 1) :=
  bigSep_univ_eq_bigSepL [(0 : Fin 2), 1] (by decide) (by decide) Φ

/-- A row over both directions. -/
theorem bigSep_sides {n : ℕ} (Φ : ℕ → ℕ → sProp 𝕄) :
    bigSep Finset.univ (fun b : Fin 2 × Fin n => Φ b.1 b.2) = iprop(bigSep (Finset.Ico 0 n) (Φ 0) ∗ bigSep (Finset.Ico 0 n) (Φ 1)) := by
  rw [bigSep_univ_prod, bigSep_two, ← bigSep_fin_Ico (Φ 0), ← bigSep_fin_Ico (Φ 1)]; rfl

/-! ## Pieces of a buffer -/

section Pieces
variable {ℓ : Loc nD τ sig} {n : ℕ} (S : ℕ → ℕ → Finset (Idx ℓ))
  (hd : ∀ b b' : Fin 2 × Fin n, b ≠ b' → Disjoint (S b.1 b.2) (S b'.1 b'.2))
  (hc : Finset.univ.biUnion (fun b : Fin 2 × Fin n => S b.1 b.2) = Finset.univ)

include hd hc in
/-- A whole buffer is its pieces; -/
theorem pts_pieces (f : Buf (Elt F) ℓ) :
    (ℓ ↦{fullShare} f : sProp 𝕄) = iprop(bigSep (Finset.Ico 0 n) (fun t => ℓ ↦[S 0 t]{fullShare} f) ∗ bigSep (Finset.Ico 0 n) (fun t => ℓ ↦[S 1 t]{fullShare} f)) := by
  rw [Ring.pointsTo_blocks (fun b : Fin 2 × Fin n => S b.1 b.2) hd hc f]
  exact bigSep_sides fun d t => ℓ ↦[S d t]{fullShare} f

include hd hc in
/-- holding anything, it is cut into pieces that hold anything, -/
theorem any_pieces :
    iprop(∃ f : Buf (Elt F) ℓ, ℓ ↦{fullShare} f)
      ⊢ (iprop(bigSep (Finset.Ico 0 n) (fun t => iprop(∃ f : Buf (Elt F) ℓ, ℓ ↦[S 0 t]{fullShare} f)) ∗ bigSep (Finset.Ico 0 n) (fun t => iprop(∃ f : Buf (Elt F) ℓ, ℓ ↦[S 1 t]{fullShare} f))) : sProp 𝕄) := by
  have h : ∀ (f : Buf (Elt F) ℓ) (d : ℕ), bigSep (Finset.Ico 0 n) (fun t => (ℓ ↦[S d t]{fullShare} f : sProp 𝕄)) ⊢ bigSep (Finset.Ico 0 n) (fun t => iprop(∃ f : Buf (Elt F) ℓ, ℓ ↦[S d t]{fullShare} f)) :=
    fun f d => bigSep_mono fun t _ => by
      show iprop(ℓ ↦[S d t]{fullShare} f) ⊢ (iprop(∃ f : Buf (Elt F) ℓ, ℓ ↦[S d t]{fullShare} f) : sProp 𝕄)
      iintro H; iexists f; iexact H
  iintro ⟨%f, H⟩
  ihave H2 := (Entails.of_eq (pts_pieces S hd hc f)) $$ H
  icases H2 with ⟨H0, H1⟩
  isplitl [H0]
  · iapply (h f 0); iexact H0
  · iapply (h f 1); iexact H1

include hd hc in
/-- and the pieces make it again. -/
theorem any_join :
    iprop(bigSep (Finset.Ico 0 n) (fun t => iprop(∃ f : Buf (Elt F) ℓ, ℓ ↦[S 0 t]{fullShare} f)) ∗ bigSep (Finset.Ico 0 n) (fun t => iprop(∃ f : Buf (Elt F) ℓ, ℓ ↦[S 1 t]{fullShare} f)))
      ⊢ (iprop(∃ f : Buf (Elt F) ℓ, ℓ ↦{fullShare} f) : sProp 𝕄) := by
  rw [← bigSep_sides fun d t => iprop(∃ f : Buf (Elt F) ℓ, ℓ ↦[S d t]{fullShare} f)]
  exact Ring.pointsTo_blocks_join_exists (fun b : Fin 2 × Fin n => S b.1 b.2) hd hc (fun _ => Classical.arbitrary _)

end Pieces

/-! ## The pieces of each buffer -/

/-- Two tiles of a matrix have no element in common, -/
theorem tile_disjoint (b b' : Fin 2 × Fin 8) (h : b ≠ b') : Disjoint (tileR b.1 b.2).set (tileR b'.1 b'.2).set := by
  obtain ⟨⟨d, hd⟩, ⟨t, ht⟩⟩ := b
  obtain ⟨⟨d', hd'⟩, ⟨t', ht'⟩⟩ := b'
  rw [Finset.disjoint_left]
  intro i h₁ h₂
  have e₁ := Rect.mem_set_unit.mp h₁ 1
  have e₂ := Rect.mem_set_unit.mp h₂ 1
  dsimp [col] at e₁ e₂
  apply h
  have : d = d' ∧ t = t' := by omega
  obtain ⟨rfl, rfl⟩ := this; rfl
/-- and all tiles together are the matrix. -/
theorem tile_cover : Finset.univ.biUnion (fun b : Fin 2 × Fin 8 => (tileR b.1 b.2).set) = Finset.univ := by
  ext i
  simp only [Finset.mem_biUnion, Finset.mem_univ, true_and, iff_true]
  have h0 : (i 0 : ℕ) < 1024 := (i 0).isLt
  have h1 : (i 1 : ℕ) < 8192 := (i 1).isLt
  refine ⟨(⟨(i 1 : ℕ) / 4096, by omega⟩, ⟨(i 1 : ℕ) % 4096 / 512, by omega⟩), Rect.mem_set_unit.mpr fun a => ?_⟩
  match a with
  | ⟨0, _⟩ => show 0 ≤ (i 0 : ℕ) ∧ (i 0 : ℕ) < 0 + 1024; omega
  | ⟨1, _⟩ => show (i 1 : ℕ) / 4096 % 2 * 4096 + (i 1 : ℕ) % 4096 / 512 % 8 * 512 ≤ (i 1 : ℕ) ∧ (i 1 : ℕ) < (i 1 : ℕ) / 4096 % 2 * 4096 + (i 1 : ℕ) % 4096 / 512 % 8 * 512 + 512; omega

/-- Two of the sender's slots have no element in common, -/
theorem aR_disjoint (b b' : Fin 2 × Fin 2) (h : b ≠ b') : Disjoint (aR b.1 b.2).set (aR b'.1 b'.2).set := by
  obtain ⟨⟨d, hd⟩, ⟨t, ht⟩⟩ := b
  obtain ⟨⟨d', hd'⟩, ⟨t', ht'⟩⟩ := b'
  rw [Finset.disjoint_left]
  intro i h₁ h₂
  have e₁ := Rect.mem_set_unit.mp h₁ 0
  have e₂ := Rect.mem_set_unit.mp h₂ 0
  have f₁ := Rect.mem_set_unit.mp h₁ 1
  have f₂ := Rect.mem_set_unit.mp h₂ 1
  dsimp at e₁ e₂ f₁ f₂
  apply h
  have : d = d' ∧ t = t' := by omega
  obtain ⟨rfl, rfl⟩ := this; rfl
/-- and together they are the buffer. -/
theorem aR_cover : Finset.univ.biUnion (fun b : Fin 2 × Fin 2 => (aR b.1 b.2).set) = Finset.univ := by
  ext i
  simp only [Finset.mem_biUnion, Finset.mem_univ, true_and, iff_true]
  have h0 : (i 0 : ℕ) < 2 := (i 0).isLt
  have h1 : (i 1 : ℕ) < 2 := (i 1).isLt
  have h2 : (i 2 : ℕ) < 1024 := (i 2).isLt
  have h3 : (i 3 : ℕ) < 512 := (i 3).isLt
  refine ⟨(⟨(i 0 : ℕ), h0⟩, ⟨(i 1 : ℕ), h1⟩), Rect.mem_set_unit.mpr fun a => ?_⟩
  match a with
  | ⟨0, _⟩ => show (i 0 : ℕ) % 2 ≤ (i 0 : ℕ) ∧ (i 0 : ℕ) < (i 0 : ℕ) % 2 + 1; omega
  | ⟨1, _⟩ => show (i 1 : ℕ) % 2 ≤ (i 1 : ℕ) ∧ (i 1 : ℕ) < (i 1 : ℕ) % 2 + 1; omega
  | ⟨2, _⟩ => show 0 ≤ (i 2 : ℕ) ∧ (i 2 : ℕ) < 0 + 1024; omega
  | ⟨3, _⟩ => show 0 ≤ (i 3 : ℕ) ∧ (i 3 : ℕ) < 0 + 512; omega

/-- Two of the receiver's slots have no element in common, -/
theorem rR_disjoint (b b' : Fin 2 × Fin 10) (h : b ≠ b') : Disjoint (rR b.1 b.2).set (rR b'.1 b'.2).set := by
  obtain ⟨⟨d, hd⟩, ⟨t, ht⟩⟩ := b
  obtain ⟨⟨d', hd'⟩, ⟨t', ht'⟩⟩ := b'
  rw [Finset.disjoint_left]
  intro i h₁ h₂
  have e₁ := Rect.mem_set_unit.mp h₁ 0
  have e₂ := Rect.mem_set_unit.mp h₂ 0
  have f₁ := Rect.mem_set_unit.mp h₁ 1
  have f₂ := Rect.mem_set_unit.mp h₂ 1
  dsimp at e₁ e₂ f₁ f₂
  apply h
  have : d = d' ∧ t = t' := by omega
  obtain ⟨rfl, rfl⟩ := this; rfl
/-- and together they are the buffer. -/
theorem rR_cover : Finset.univ.biUnion (fun b : Fin 2 × Fin 10 => (rR b.1 b.2).set) = Finset.univ := by
  ext i
  simp only [Finset.mem_biUnion, Finset.mem_univ, true_and, iff_true]
  have h0 : (i 0 : ℕ) < 2 := (i 0).isLt
  have h1 : (i 1 : ℕ) < 10 := (i 1).isLt
  have h2 : (i 2 : ℕ) < 1024 := (i 2).isLt
  have h3 : (i 3 : ℕ) < 512 := (i 3).isLt
  refine ⟨(⟨(i 0 : ℕ), h0⟩, ⟨(i 1 : ℕ), h1⟩), Rect.mem_set_unit.mpr fun a => ?_⟩
  match a with
  | ⟨0, _⟩ => show (i 0 : ℕ) % 2 ≤ (i 0 : ℕ) ∧ (i 0 : ℕ) < (i 0 : ℕ) % 2 + 1; omega
  | ⟨1, _⟩ => show (i 1 : ℕ) % 10 ≤ (i 1 : ℕ) ∧ (i 1 : ℕ) < (i 1 : ℕ) % 10 + 1; omega
  | ⟨2, _⟩ => show 0 ≤ (i 2 : ℕ) ∧ (i 2 : ℕ) < 0 + 1024; omega
  | ⟨3, _⟩ => show 0 ≤ (i 3 : ℕ) ∧ (i 3 : ℕ) < 0 + 512; omega

/-- The two slots of a stage have no element in common, -/
theorem gR_disjoint (b b' : Fin 2 × Fin 1) (h : b ≠ b') : Disjoint (gR b.1).set (gR b'.1).set := by
  obtain ⟨⟨d, hd⟩, ⟨t, ht⟩⟩ := b
  obtain ⟨⟨d', hd'⟩, ⟨t', ht'⟩⟩ := b'
  rw [Finset.disjoint_left]
  intro i h₁ h₂
  have e₁ := Rect.mem_set_unit.mp h₁ 0
  have e₂ := Rect.mem_set_unit.mp h₂ 0
  dsimp at e₁ e₂
  apply h
  have : d = d' ∧ t = t' := by omega
  obtain ⟨rfl, rfl⟩ := this; rfl
/-- and together they are the stage. -/
theorem gR_cover : Finset.univ.biUnion (fun b : Fin 2 × Fin 1 => (gR b.1).set) = Finset.univ := by
  ext i
  simp only [Finset.mem_biUnion, Finset.mem_univ, true_and, iff_true]
  have h0 : (i 0 : ℕ) < 2 := (i 0).isLt
  have h1 : (i 1 : ℕ) < 1024 := (i 1).isLt
  have h2 : (i 2 : ℕ) < 512 := (i 2).isLt
  refine ⟨(⟨(i 0 : ℕ), h0⟩, 0), Rect.mem_set_unit.mpr fun a => ?_⟩
  match a with
  | ⟨0, _⟩ => show (i 0 : ℕ) % 2 ≤ (i 0 : ℕ) ∧ (i 0 : ℕ) < (i 0 : ℕ) % 2 + 1; omega
  | ⟨1, _⟩ => show 0 ≤ (i 1 : ℕ) ∧ (i 1 : ℕ) < 0 + 1024; omega
  | ⟨2, _⟩ => show 0 ≤ (i 2 : ℕ) ∧ (i 2 : ℕ) < 0 + 512; omega

/-- The elements of a tile of the weights; -/
theorem wV_set (d t : ℕ) : (wV d t).view.set = (tileR d t).set := View.set_slice_whole _ _
/-- of the result; -/
theorem oV_set (d t : ℕ) : (oV d t).view.set = (tileR d t).set := View.set_slice_whole _ _
/-- of the rounded weights; -/
theorem bV_set (d t : ℕ) : (bV d t).view.set = (tileR d t).set := View.set_slice_whole _ _
/-- of a slot of the sender; -/
theorem aV_set (d p : ℕ) : (aV d p).view.set = (aR d p).set := (View.set_reshape _ _).trans (View.set_slice_whole _ _)
/-- of a slot of the receiver; -/
theorem rV_set (d q : ℕ) : (rV d q).view.set = (rR d q).set := (View.set_reshape _ _).trans (View.set_slice_whole _ _)
/-- of a slot of the weights' stage; -/
theorem gV_set (d : ℕ) : (gV d).view.set = (gR d).set := (View.set_reshape _ _).trans (View.set_slice_whole _ _)
/-- of a slot of the results' stage. -/
theorem uV_set (d : ℕ) : (uV d).view.set = (gR d).set := (View.set_reshape _ _).trans (View.set_slice_whole _ _)

/-- The tiles of the weights are disjoint -/
theorem wV_disjoint (b b' : Fin 2 × Fin 8) (h : b ≠ b') : Disjoint (wV b.1 b.2).view.set (wV b'.1 b'.2).view.set := by
  rw [wV_set, wV_set]; exact tile_disjoint b b' h
/-- and cover them. -/
theorem wV_cover : Finset.biUnion (β := S1024x8192.Idx) Finset.univ (fun b : Fin 2 × Fin 8 => (wV b.1 b.2).view.set) = Finset.univ :=
  (Finset.biUnion_congr rfl fun b _ => wV_set _ _).trans tile_cover
/-- The tiles of the result are disjoint -/
theorem oV_disjoint (b b' : Fin 2 × Fin 8) (h : b ≠ b') : Disjoint (oV b.1 b.2).view.set (oV b'.1 b'.2).view.set := by
  rw [oV_set, oV_set]; exact tile_disjoint b b' h
/-- and cover it. -/
theorem oV_cover : Finset.biUnion (β := S1024x8192.Idx) Finset.univ (fun b : Fin 2 × Fin 8 => (oV b.1 b.2).view.set) = Finset.univ :=
  (Finset.biUnion_congr rfl fun b _ => oV_set _ _).trans tile_cover
/-- The tiles of the rounded weights are disjoint -/
theorem bV_disjoint (b b' : Fin 2 × Fin 8) (h : b ≠ b') : Disjoint (bV b.1 b.2).view.set (bV b'.1 b'.2).view.set := by
  rw [bV_set, bV_set]; exact tile_disjoint b b' h
/-- and cover them. -/
theorem bV_cover : Finset.biUnion (β := S1024x8192.Idx) Finset.univ (fun b : Fin 2 × Fin 8 => (bV b.1 b.2).view.set) = Finset.univ :=
  (Finset.biUnion_congr rfl fun b _ => bV_set _ _).trans tile_cover
/-- The sender's slots are disjoint -/
theorem aV_disjoint (b b' : Fin 2 × Fin 2) (h : b ≠ b') : Disjoint (aV b.1 b.2).view.set (aV b'.1 b'.2).view.set := by
  rw [aV_set, aV_set]; exact aR_disjoint b b' h
/-- and cover their buffer. -/
theorem aV_cover : Finset.biUnion (β := S2x2x1024x512.Idx) Finset.univ (fun b : Fin 2 × Fin 2 => (aV b.1 b.2).view.set) = Finset.univ :=
  (Finset.biUnion_congr rfl fun b _ => aV_set _ _).trans aR_cover
/-- The receiver's slots are disjoint -/
theorem rV_disjoint (b b' : Fin 2 × Fin 10) (h : b ≠ b') : Disjoint (rV b.1 b.2).view.set (rV b'.1 b'.2).view.set := by
  rw [rV_set, rV_set]; exact rR_disjoint b b' h
/-- and cover their buffer. -/
theorem rV_cover : Finset.biUnion (β := S2x10x1024x512.Idx) Finset.univ (fun b : Fin 2 × Fin 10 => (rV b.1 b.2).view.set) = Finset.univ :=
  (Finset.biUnion_congr rfl fun b _ => rV_set _ _).trans rR_cover
/-- The slots of the weights' stage are disjoint -/
theorem gV_disjoint (b b' : Fin 2 × Fin 1) (h : b ≠ b') : Disjoint (gV b.1).view.set (gV b'.1).view.set := by
  rw [gV_set, gV_set]; exact gR_disjoint b b' h
/-- and cover it. -/
theorem gV_cover : Finset.biUnion (β := S2x1024x512.Idx) Finset.univ (fun b : Fin 2 × Fin 1 => (gV b.1).view.set) = Finset.univ :=
  (Finset.biUnion_congr rfl fun b _ => gV_set _).trans gR_cover
/-- The slots of the results' stage are disjoint -/
theorem uV_disjoint (b b' : Fin 2 × Fin 1) (h : b ≠ b') : Disjoint (uV b.1).view.set (uV b'.1).view.set := by
  rw [uV_set, uV_set]; exact gR_disjoint b b' h
/-- and cover it. -/
theorem uV_cover : Finset.biUnion (β := S2x1024x512.Idx) Finset.univ (fun b : Fin 2 × Fin 1 => (uV b.1).view.set) = Finset.univ :=
  (Finset.biUnion_congr rfl fun b _ => uV_set _).trans gR_cover

/-! ## Each buffer cut and joined -/

/-- The weights in tiles. -/
theorem w_tiles : ((c : Thread nD τ).loc main_arg1 ↦{fullShare} (m ((c : Thread nD τ).loc main_arg1)) : sProp 𝕄)
    = iprop(bigSep (Finset.Ico 0 8) (fun t => wPts m c 0 t) ∗ bigSep (Finset.Ico 0 8) (fun t => wPts m c 1 t)) := by
  unfold wPts
  exact pts_pieces (ℓ := (c : Thread nD τ).loc main_arg1) (n := 8) (fun d t => (wV d t).view.set) wV_disjoint wV_cover _

/-- A buffer that holds anything. -/
abbrev anyAt (b : Ref sig .tc) : sProp 𝕄 := iprop(∃ f : Buf (Elt F) ((c : Thread nD τ).loc b), ((c : Thread nD τ).loc b) ↦{fullShare} f)

/-- The result falls into its sixteen tiles. -/
theorem o_tiles : anyAt c main_v1 ⊢ (iprop(bigSep (Finset.Ico 0 8) (fun t => vAny c (oV 0 t)) ∗ bigSep (Finset.Ico 0 8) (fun t => vAny c (oV 1 t))) : sProp 𝕄) := by
  unfold vAny
  exact any_pieces (ℓ := (c : Thread nD τ).loc main_v1) (n := 8) (fun d t => (oV d t).view.set) oV_disjoint oV_cover
/-- The rounded weights fall into their sixteen tiles, -/
theorem b_tiles : anyAt c cc0_scratch2 ⊢ (iprop(bigSep (Finset.Ico 0 8) (fun t => vAny c (bV 0 t)) ∗ bigSep (Finset.Ico 0 8) (fun t => vAny c (bV 1 t))) : sProp 𝕄) := by
  unfold vAny
  exact any_pieces (ℓ := (c : Thread nD τ).loc cc0_scratch2) (n := 8) (fun d t => (bV d t).view.set) bV_disjoint bV_cover
/-- which join again. -/
theorem b_join : iprop(bigSep (Finset.Ico 0 8) (fun t => vAny c (bV 0 t)) ∗ bigSep (Finset.Ico 0 8) (fun t => vAny c (bV 1 t))) ⊢ (anyAt c cc0_scratch2 : sProp 𝕄) := by
  unfold vAny
  exact any_join (ℓ := (c : Thread nD τ).loc cc0_scratch2) (n := 8) (fun d t => (bV d t).view.set) bV_disjoint bV_cover
/-- The sender's buffer falls into its four slots, -/
theorem a_slots : anyAt c cc0_scratch0 ⊢ (iprop(bigSep (Finset.Ico 0 2) (fun p => aAny c 0 p) ∗ bigSep (Finset.Ico 0 2) (fun p => aAny c 1 p)) : sProp 𝕄) := by
  unfold aAny
  exact any_pieces (ℓ := (c : Thread nD τ).loc cc0_scratch0) (n := 2) (fun d t => (aV d t).view.set) aV_disjoint aV_cover
/-- which join again. -/
theorem a_join : iprop(bigSep (Finset.Ico 0 2) (fun p => aAny c 0 p) ∗ bigSep (Finset.Ico 0 2) (fun p => aAny c 1 p)) ⊢ (anyAt c cc0_scratch0 : sProp 𝕄) := by
  unfold aAny
  exact any_join (ℓ := (c : Thread nD τ).loc cc0_scratch0) (n := 2) (fun d t => (aV d t).view.set) aV_disjoint aV_cover
/-- The receiver's buffer falls into its twenty slots, -/
theorem r_slots : anyAt c cc0_scratch1 ⊢ (iprop(rSlots c 0 ∗ rSlots c 1) : sProp 𝕄) := by
  unfold rSlots rAny
  exact any_pieces (ℓ := (c : Thread nD τ).loc cc0_scratch1) (n := 10) (fun d t => (rV d t).view.set) rV_disjoint rV_cover
/-- which join again. -/
theorem r_join : iprop(rSlots c 0 ∗ rSlots c 1) ⊢ (anyAt c cc0_scratch1 : sProp 𝕄) := by
  unfold rSlots rAny
  exact any_join (ℓ := (c : Thread nD τ).loc cc0_scratch1) (n := 10) (fun d t => (rV d t).view.set) rV_disjoint rV_cover

/-- A row over one index is its assertion. -/
theorem bigSep_one (Φ : ℕ → sProp 𝕄) : bigSep (Finset.Ico 0 1) Φ = Φ 0 := by
  rw [show Finset.Ico 0 1 = {0} from by decide, bigSep_singleton]

/-- The weights' stage falls into its two slots, -/
theorem g_slots : anyAt c cc0_scratch3 ⊢ (iprop(vAny c (gV 0) ∗ vAny c (gV 1)) : sProp 𝕄) := by
  have h := any_pieces (F := F) (ℓ := (c : Thread nD τ).loc cc0_scratch3) (n := 1) (fun d t => (gV d).view.set) gV_disjoint gV_cover
  rw [bigSep_one, bigSep_one] at h
  unfold vAny
  exact h
/-- which join again. -/
theorem g_join : iprop(vAny c (gV 0) ∗ vAny c (gV 1)) ⊢ (anyAt c cc0_scratch3 : sProp 𝕄) := by
  have h := any_join (F := F) (ℓ := (c : Thread nD τ).loc cc0_scratch3) (n := 1) (fun d t => (gV d).view.set) gV_disjoint gV_cover
  rw [bigSep_one, bigSep_one] at h
  unfold vAny
  exact h
/-- The results' stage falls into its two slots, -/
theorem u_slots : anyAt c cc0_scratch4 ⊢ (iprop(vAny c (uV 0) ∗ vAny c (uV 1)) : sProp 𝕄) := by
  have h := any_pieces (F := F) (ℓ := (c : Thread nD τ).loc cc0_scratch4) (n := 1) (fun d t => (uV d).view.set) uV_disjoint uV_cover
  rw [bigSep_one, bigSep_one] at h
  unfold vAny
  exact h
/-- which join again. -/
theorem u_join : iprop(vAny c (uV 0) ∗ vAny c (uV 1)) ⊢ (anyAt c cc0_scratch4 : sProp 𝕄) := by
  have h := any_join (F := F) (ℓ := (c : Thread nD τ).loc cc0_scratch4) (n := 1) (fun d t => (uV d).view.set) uV_disjoint uV_cover
  rw [bigSep_one, bigSep_one] at h
  unfold vAny
  exact h

end Cert.RingProof

end
-- ==== Proof.Deal.lean ====
/- The start of the protocol: the cells of all devices are set up at once, and everything that a
   device needs of them, of its own and of its neighbours', is dealt out. -/
module

public import proofs.«01_k».proof.Proof.Buffers

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : GSem nD τ sig → ℕ) (c : Dev nD)

/-! ## Rows -/

/-- The second and the third of three assertions may be exchanged. -/
theorem sep_swap (A B C : sProp 𝕄) : iprop((A ∗ B) ∗ C) = iprop((A ∗ C) ∗ B) := by
  have h : ∀ B C : sProp 𝕄, iprop((A ∗ B) ∗ C) ⊢ (iprop((A ∗ C) ∗ B) : sProp 𝕄) := fun B C => by
    iintro ⟨⟨HA, HB⟩, HC⟩
    isplitr [HB]
    · isplitl [HA]; · iexact HA
      iexact HC
    iexact HB
  exact Entails.antisymm (h B C) (h C B)

/-- Three rows over the same indices are one row of triples. -/
theorem bigSep_three {I : Type} (s : Finset I) (A B C : I → sProp 𝕄) :
    iprop(bigSep s A ∗ bigSep s B ∗ bigSep s C) ⊢ (bigSep s fun i => iprop(A i ∗ B i ∗ C i) : sProp 𝕄) := by
  rw [bigSep_sep', bigSep_sep']

/-- A row over `n` numbers that begin at `a` is a row over an interval. -/
theorem bigSep_fin_from (a n : ℕ) (Φ : ℕ → sProp 𝕄) : bigSep Finset.univ (fun t : Fin n => Φ (a + t)) = bigSep (Finset.Ico a (a + n)) Φ := by
  have h : Finset.Ico a (a + n) = Finset.univ.map ⟨fun t : Fin n => a + (t : ℕ), fun t t' h => Fin.ext (Nat.add_left_cancel h)⟩ := by
    ext i
    simp only [Finset.mem_Ico, Finset.mem_map, Finset.mem_univ, true_and]
    exact ⟨fun h => ⟨⟨i - a, by omega⟩, by show a + (i - a) = i; omega⟩, fun ⟨t, ht⟩ => by
      have := t.2; have : a + (t : ℕ) = i := ht; omega⟩
  rw [h, bigSep_map]; rfl

/-- A row over an interval moved by `k` is the row of the moved assertions. -/
theorem bigSep_shift (a b k : ℕ) (Φ : ℕ → sProp 𝕄) : bigSep (Finset.Ico (a + k) (b + k)) Φ = bigSep (Finset.Ico a b) (fun i => Φ (i + k)) := by
  have h : Finset.Ico (a + k) (b + k) = (Finset.Ico a b).map (addRightEmbedding k) := by
    ext i
    simp only [Finset.mem_Ico, Finset.mem_map, addRightEmbedding_apply]
    exact ⟨fun h => ⟨i - k, by omega, by omega⟩, fun ⟨t, ht, e⟩ => by omega⟩
  rw [h, bigSep_map]; rfl

/-! ## Duty tokens -/

/-- A device's duties: of each direction 24 sends, 24 receipts, 14 credits, and two of the barrier. -/
abbrev TokIx : Type := (Fin 2 × (Fin 24 ⊕ (Fin 24 ⊕ Fin 14))) ⊕ Bool
/-- The duty. -/
def tokAt : Dev nD × TokIx → GSem nD τ sig × ℕ × Bool
  | (c, .inl (d, .inl j)) => (sendC c d j, j / 2, false)
  | (c, .inl (d, .inr (.inl j))) => (recvC c d j, j / 10, false)
  | (c, .inl (d, .inr (.inr j))) => (credC c d (10 + j), (10 + j) / 10 - 1, false)
  | (c, .inr b) => (barC c, 0, b)

/-- Different devices or duties have different tokens. -/
theorem tokAt_injective : Function.Injective tokAt := by
  have hd : ∀ x, (tokAt x).1.1.1 = x.1 := by rintro ⟨c, ⟨d, j | j | j⟩ | b⟩ <;> rfl
  have hr : ∀ x, role (tokAt x).1.2 = match x.2 with
      | .inl (d, .inl j) => Role.send d (j % 2)
      | .inl (d, .inr (.inl j)) => Role.recv d (j % 10)
      | .inl (d, .inr (.inr j)) => Role.cred d ((10 + j) % 10)
      | .inr _ => Role.bar := by
    rintro ⟨c, ⟨d, j | j | j⟩ | b⟩
    · show role (.dma (sendS d j)) = _
      rw [role_send, Nat.mod_eq_of_lt d.2]
    · show role (.dma (recvS d j)) = _
      rw [role_recv, Nat.mod_eq_of_lt d.2]
    · show role (.reg (credS d (10 + j))) = _
      rw [role_cred, Nat.mod_eq_of_lt d.2]
    · exact role_bar
  rintro ⟨c, i⟩ ⟨c', i'⟩ h
  have ec : c = c' := (hd (c, i)).symm.trans ((congrArg (fun x : GSem nD τ sig × ℕ × Bool => x.1.1.1) h).trans (hd (c', i')))
  have e := (hr (c, i)).symm.trans ((congrArg (fun x : GSem nD τ sig × ℕ × Bool => role x.1.2) h).trans (hr (c', i')))
  have e' : (tokAt (c, i)).2 = (tokAt (c', i')).2 := congrArg Prod.snd h
  subst ec
  rcases i with ⟨d, j | j | j⟩ | b <;> rcases i' with ⟨d', j' | j' | j'⟩ | b' <;>
    simp only [Role.send.injEq, Role.recv.injEq, Role.cred.injEq, reduceCtorEq, tokAt, Prod.mk.injEq, and_true, true_and] at e e'
  · obtain ⟨rfl, rfl⟩ : d = d' ∧ j = j' := ⟨Fin.ext e.1, Fin.ext (by omega)⟩; rfl
  · obtain ⟨rfl, rfl⟩ : d = d' ∧ j = j' := ⟨Fin.ext e.1, Fin.ext (by omega)⟩; rfl
  · obtain ⟨rfl, rfl⟩ : d = d' ∧ j = j' := ⟨Fin.ext e.1, Fin.ext (by omega)⟩; rfl
  · rw [e']

/-- All duties. -/
def allToks : Finset (GSem nD τ sig × ℕ × Bool) := Finset.univ.map ⟨tokAt, tokAt_injective⟩

/-- The tokens of one device's own duties, of one direction; -/
def ownToks (d : ℕ) : sProp 𝕄 :=
  iprop(bigSep (Finset.Ico 0 24) (fun j => dutyTok ER (sendC c d j) (j / 2) false)
    ∗ bigSep (Finset.Ico 0 24) (fun j => dutyTok ER (recvC c d j) (j / 10) false)
    ∗ bigSep (Finset.Ico 10 24) (fun j => dutyTok ER (credC c d j) (j / 10 - 1) false))
/-- and those that it pays. -/
def payToks (d : ℕ) : sProp 𝕄 := iprop(postSt c d 0 ∗ bigSep (Finset.Ico 10 24) (fun j => dutyTok ER (credC (srcD d c) d j) (j / 10 - 1) false))

/-- The tokens of a device's duties are those of both directions and the two of its barrier. -/
theorem toks_own : bigSep Finset.univ (fun x : TokIx => (dutyTok ER (tokAt (c, x)).1 (tokAt (c, x)).2.1 (tokAt (c, x)).2.2 : sProp 𝕄))
    = iprop((ownToks c 0 ∗ ownToks c 1) ∗ dutyTok ER (barC c) 0 false ∗ dutyTok ER (barC c) 0 true) := by
  have h : ∀ d : Fin 2, bigSep Finset.univ (fun x : Fin 24 ⊕ (Fin 24 ⊕ Fin 14) =>
      (dutyTok ER (tokAt (c, .inl (d, x))).1 (tokAt (c, .inl (d, x))).2.1 (tokAt (c, .inl (d, x))).2.2 : sProp 𝕄)) = ownToks c d := fun d => by
    rw [bigSep_univ_sum, bigSep_univ_sum]
    unfold ownToks
    rw [← bigSep_fin_Ico (n := 24) (fun j => (dutyTok ER (sendC c d j) (j / 2) false : sProp 𝕄)),
      ← bigSep_fin_Ico (n := 24) (fun j => (dutyTok ER (recvC c d j) (j / 10) false : sProp 𝕄)),
      ← bigSep_fin_from 10 14 (fun j => (dutyTok ER (credC c d j) (j / 10 - 1) false : sProp 𝕄))]
    rfl
  rw [bigSep_univ_sum, bigSep_univ_prod, bigSep_two, h, h, show (Finset.univ : Finset Bool) = insert false {true} from by decide,
    bigSep_ins (by decide), bigSep_singleton]
  rfl

/-- Every token reaches the device that pays. -/
theorem toks_around : (bigSep Finset.univ fun c : Dev nD => (iprop((ownToks c 0 ∗ ownToks c 1) ∗ dutyTok ER (barC c) 0 false ∗ dutyTok ER (barC c) 0 true) : sProp 𝕄))
    ⊢ bigSep Finset.univ fun c : Dev nD => iprop((payToks c 0 ∗ payToks c 1) ∗ dutyTok ER (barC (leftD c)) 0 false ∗ dutyTok ER (barC (rightD c)) 0 true) := by
  have h : ∀ d : ℕ, (bigSep Finset.univ fun c : Dev nD => (ownToks c d : sProp 𝕄)) ⊢ bigSep Finset.univ fun c : Dev nD => payToks c d := fun d => by
    unfold ownToks payToks postSt
    simp only [bigSep_sep']
    rw [bigSep_univ_equiv (ringE d) (fun c : Dev nD => (bigSep (Finset.Ico 0 24) (fun j => dutyTok ER (recvC c d j) (j / 10) false) : sProp 𝕄)),
      bigSep_univ_equiv (ringE d).symm (fun c : Dev nD => (bigSep (Finset.Ico 10 24) (fun j => dutyTok ER (credC c d j) (j / 10 - 1) false) : sProp 𝕄))]
    iintro ⟨Hs, Hr, Hc⟩
    isplitl [Hs Hr]
    · isplitl [Hr]; · iexact Hr
      iexact Hs
    iexact Hc
  simp only [bigSep_sep']
  rw [bigSep_univ_equiv (ringE 0).symm (fun c : Dev nD => (dutyTok ER (barC c) 0 false : sProp 𝕄)),
    bigSep_univ_equiv (ringE 0) (fun c : Dev nD => (dutyTok ER (barC c) 0 true : sProp 𝕄))]
  iintro ⟨⟨H0, H1⟩, Hl, Hr⟩
  isplitl [H0 H1]
  · isplitl [H0]; · iapply (h 0); iexact H0
    iapply (h 1); iexact H1
  isplitl [Hl]; · iexact Hl
  iexact Hr

/-! ## Positions -/

/-- The first round of each cell of one direction. -/
def firsts (d : ℕ) : sProp 𝕄 :=
  iprop(bigSep (Finset.Ico 0 2) (fun p => atPos ER (sendC c d p) 0 ∅ 0)
    ∗ bigSep (Finset.Ico 0 10) (fun q => atPos ER (recvC c d q) 0 ∅ 0)
    ∗ bigSep (Finset.Ico 0 10) (fun q => atPos ER (credC c d q) 0 ∅ 0))

/-- A family over the cells of a device. -/
theorem cells_own (Φ : GSem nD τ sig → sProp 𝕄) : bigSep Finset.univ (fun i : CellIx => Φ (cellAt (c, i)))
    = iprop(((bigSep (Finset.Ico 0 2) (fun p => Φ (sendC c 0 p)) ∗ bigSep (Finset.Ico 0 10) (fun q => Φ (recvC c 0 q)) ∗ bigSep (Finset.Ico 0 10) (fun q => Φ (credC c 0 q)))
        ∗ (bigSep (Finset.Ico 0 2) (fun p => Φ (sendC c 1 p)) ∗ bigSep (Finset.Ico 0 10) (fun q => Φ (recvC c 1 q)) ∗ bigSep (Finset.Ico 0 10) (fun q => Φ (credC c 1 q))))
      ∗ Φ (barC c)) := by
  have h : ∀ d : Fin 2, bigSep Finset.univ (fun x : Fin 2 ⊕ (Fin 10 ⊕ Fin 10) => Φ (cellAt (c, .inl (d, x))))
      = iprop(bigSep (Finset.Ico 0 2) (fun p => Φ (sendC c d p)) ∗ bigSep (Finset.Ico 0 10) (fun q => Φ (recvC c d q)) ∗ bigSep (Finset.Ico 0 10) (fun q => Φ (credC c d q))) := fun d => by
    rw [bigSep_univ_sum, bigSep_univ_sum, ← bigSep_fin_Ico (n := 2) (fun p => Φ (sendC c d p)), ← bigSep_fin_Ico (n := 10) (fun q => Φ (recvC c d q)),
      ← bigSep_fin_Ico (n := 10) (fun q => Φ (credC c d q))]
    rfl
  rw [bigSep_univ_sum, bigSep_univ_prod, bigSep_two, h, h, show (Finset.univ : Finset Unit) = {()} from rfl, bigSep_singleton]
  rfl

/-- A family over all cells is one over the devices and the cells of each. -/
theorem cells_all (Φ : GSem nD τ sig → sProp 𝕄) : bigSep cells Φ = bigSep Finset.univ fun c : Dev nD => bigSep Finset.univ fun i : CellIx => Φ (cellAt (c, i)) := by
  unfold cells; rw [bigSep_map, bigSep_univ_prod]; rfl

/-! ## Semaphores -/

/-- The semaphores of the kernel's scratch: of the protocol, and of the copies through the stages. -/
abbrev OwnIx : Type := (Fin 2 × (Fin 2 ⊕ (Fin 10 ⊕ Fin 10))) ⊕ (Fin 2 ⊕ Fin 2)
/-- The semaphores that the kernel itself allocates. -/
def osem : OwnIx → SemLoc sig
  | .inl x => cellSem (.inl x)
  | .inr (.inl d) => .dma (wdS d)
  | .inr (.inr d) => .dma (odS d)

/-- They are scoped to the kernel, each is listed once, and none is the pipeline's. -/
theorem ownSemFacts : Pipeline.OwnSemFacts cfg0.spec osem := by
  refine ⟨?_, ?_, ?_⟩
  · rintro (⟨d, p | q | q⟩ | d | d)
    · show (SemLoc.dma (sendS d p)).isScoped .tc = true
      rw [sendS_eq]; revert d p; decide +kernel
    · show (SemLoc.dma (recvS d q)).isScoped .tc = true
      rw [recvS_eq]; revert d q; decide +kernel
    · show (SemLoc.reg (credS d q)).isScoped .tc = true
      rw [credS_eq]; revert d q; decide +kernel
    · show (SemLoc.dma (wdS d)).isScoped .tc = true
      rw [wdS_eq]; revert d; decide +kernel
    · show (SemLoc.dma (odS d)).isScoped .tc = true
      rw [odS_eq]; revert d; decide +kernel
  · have hw : ∀ d : Fin 2, role (.dma (wdS d)) = .local := fun d => by rw [wdS_eq]; revert d; decide +kernel
    have ho : ∀ d : Fin 2, role (.dma (odS d)) = .local := fun d => by rw [odS_eq]; revert d; decide +kernel
    have hc : ∀ x, role (cellSem (.inl x)) ≠ .local := by
      rintro ⟨d, p | q | q⟩
      · show role (.dma (sendS d p)) ≠ _
        rw [role_send]; exact fun h => by cases h
      · show role (.dma (recvS d q)) ≠ _
        rw [role_recv]; exact fun h => by cases h
      · show role (.reg (credS d q)) ≠ _
        rw [role_cred]; exact fun h => by cases h
    rintro (x | d | d) (x' | d' | d') h
    · exact congrArg Sum.inl (Sum.inl.inj (cellSem_injective h))
    · exact absurd ((congrArg role h).trans (hw d')) (hc x)
    · exact absurd ((congrArg role h).trans (ho d')) (hc x)
    · exact absurd ((congrArg role h).symm.trans (hw d)) (hc x')
    · have e : wdS d = wdS d' := SemLoc.dma.inj h
      rw [wdS_eq, wdS_eq] at e
      have := congrArg Fin.val e; dsimp only at this
      rw [show d = d' from Fin.ext (by omega)]
    · have e : wdS d = odS d' := SemLoc.dma.inj h
      rw [wdS_eq, odS_eq] at e
      have := congrArg Fin.val e; dsimp only at this; omega
    · exact absurd ((congrArg role h).symm.trans (ho d)) (hc x')
    · have e : odS d = wdS d' := SemLoc.dma.inj h
      rw [wdS_eq, odS_eq] at e
      have := congrArg Fin.val e; dsimp only at this; omega
    · have e : odS d = odS d' := SemLoc.dma.inj h
      rw [odS_eq, odS_eq] at e
      have := congrArg Fin.val e; dsimp only at this
      rw [show d = d' from Fin.ext (by omega)]
  · have hs : ∀ (w : Fin cfg0.W) (s : Fin (cfg0.spec w).nbuf), ((cfg0.spec w).sem s).val = 0 := by decide +kernel
    have h0 : ∀ i, ∀ q : DmaSem sig, osem i = .dma q → q.val ≠ 0 := by
      rintro (⟨d, p | q | q⟩ | d | d) x h
      · have e : sendS d p = x := SemLoc.dma.inj h
        rw [← e, sendS_eq]; show 1 + 2 * (d.val % 2) + p.val % 2 ≠ 0; omega
      · have e : recvS d q = x := SemLoc.dma.inj h
        rw [← e, recvS_eq]; show 5 + 10 * (d.val % 2) + q.val % 10 ≠ 0; omega
      · exact absurd h (fun h => by cases h)
      · have e : wdS d = x := SemLoc.dma.inj h
        rw [← e, wdS_eq]; show 25 + d.val % 2 ≠ 0; omega
      · have e : odS d = x := SemLoc.dma.inj h
        rw [← e, odS_eq]; show 27 + d.val % 2 ≠ 0; omega
    exact fun k w s h => h0 k _ h (hs w s)

/-- The semaphores of the stages at zero. -/
def stageSems : sProp 𝕄 :=
  iprop((semVal ((c : Thread nD τ), .dma (wdS 0)) 0 ∗ semVal ((c : Thread nD τ), .dma (wdS 1)) 0)
    ∗ (semVal ((c : Thread nD τ), .dma (odS 0)) 0 ∗ semVal ((c : Thread nD τ), .dma (odS 1)) 0))

/-- A device's own semaphores, all at zero. -/
abbrev ownSems (c : Dev nD) : sProp 𝕄 := Pipeline.ownSems0 (Ix := ℕ) (Name := ℕ) (U := UU) (Lvl := ℕ) (Val := Elt F) (τ := τ) osem c

/-- The only semaphore from outside the kernel is the barrier. -/
theorem unscoped_eq : (unscopedSems0 c : sProp 𝕄) = semVal (barC c) 0 := by
  unfold unscopedSems0
  rw [show (Finset.univ.filter fun sm : SemLoc sig => ¬ sm.isScoped .tc = true) = {.reg barS} from by rw [barS_eq]; decide +kernel, bigSep_singleton]

/-- All semaphores are those of the cells and those of the stages. -/
theorem sems_eq : iprop(ownSems c ∗ (unscopedSems0 c : sProp 𝕄)) = iprop(bigSep Finset.univ (fun i : CellIx => semVal (cellAt (c, i)) 0) ∗ stageSems (F := F) c) := by
  unfold ownSems Pipeline.ownSems0
  rw [unscoped_eq, bigSep_univ_sum, bigSep_univ_sum, bigSep_univ_sum, bigSep_two, bigSep_two, show (Finset.univ : Finset Unit) = {()} from rfl, bigSep_singleton]
  unfold stageSems
  exact sep_swap _ _ _

/-! ## Dealing out -/

/-- What the launch mints for a device; -/
def minted : sProp 𝕄 :=
  iprop(bigSep Finset.univ (fun i : CellIx => roundState ER (sched m) (cellAt (c, i)) 0)
    ∗ bigSep Finset.univ (fun i : CellIx => reached ER (cellAt (c, i)) 0)
    ∗ bigSep Finset.univ (fun i : CellIx => atPos ER (cellAt (c, i)) 0 ∅ 0)
    ∗ bigSep Finset.univ (fun x : TokIx => dutyTok ER (tokAt (c, x)).1 (tokAt (c, x)).2.1 (tokAt (c, x)).2.2))
/-- and what a device has of the protocol when it begins. -/
def dealt : sProp 𝕄 :=
  iprop(∃ K : GSem nD τ sig → ℕ, (bigSep cells (fun g => cellInv ER (sched m) (K g) g) ∗ bigSep cells (fun g => reached ER g 0))
    ∗ bigSep Finset.univ (fun i : CellIx => atPos ER (cellAt (c, i)) 0 ∅ 0)
    ∗ ((payToks c 0 ∗ payToks c 1) ∗ dutyTok ER (barC (leftD c)) 0 false ∗ dutyTok ER (barC (rightD c)) 0 true)
    ∗ stageSems c)

/-- The initial rounds of all cells are what every device is minted. -/
theorem mint : BI.own (ER (initOf cells allToks)) ⊢ (|==> bigSep Finset.univ (minted m) : sProp 𝕄) := by
  have hT : bigSep allToks (fun x => (dutyTok ER x.1 x.2.1 x.2.2 : sProp 𝕄))
      = bigSep Finset.univ fun c : Dev nD => bigSep Finset.univ (fun x : TokIx => dutyTok ER (tokAt (c, x)).1 (tokAt (c, x)).2.1 (tokAt (c, x)).2.2) := by
    unfold allToks; rw [bigSep_map, bigSep_univ_prod]; rfl
  iintro H
  imod (Rounds.fund ER (sched m) cells allToks) $$ H with ⟨Hst, Hr, Hat, Htok⟩
  imodintro
  unfold minted; simp only [bigSep_sep']
  ihave Hst := (Entails.of_eq (cells_all fun g => roundState ER (sched m) g 0)) $$ Hst
  ihave Hr := (Entails.of_eq (cells_all fun g => reached ER g 0)) $$ Hr
  ihave Hat := (Entails.of_eq (cells_all fun g => atPos ER g 0 ∅ 0)) $$ Hat
  ihave Htok := (Entails.of_eq hT) $$ Htok
  isplitl [Hst]; · iexact Hst
  isplitl [Hr]; · iexact Hr
  isplitl [Hat]; · iexact Hat
  iexact Htok

/-- The cells' invariants. -/
theorem cells_alloc : iprop(bigSep cells (fun g => semVal g 0) ∗ bigSep cells (fun g => roundState ER (sched m) g 0))
    ⊢ (|={Set.univ}=> iprop(∃ K : GSem nD τ sig → ℕ, bigSep cells (fun g => cellInv ER (sched m) (K g) g)) : sProp 𝕄) := by
  rw [← bigSep_sep']
  have h := ((bigSep_mono (s := cells) (M := 𝕄) fun g _ => (Rounds.body_intro ER (sched m) g).trans (inv_alloc (E := Set.univ))).trans (bigSep_fupd (E := Set.univ) cells _))
  exact h.trans (BI.fupd_mono (BI.bigSep_exists_pi cells (fun g (κ : ℕ) => (cellInv ER (sched m) κ g : sProp 𝕄))))

/-- The semaphores at zero, the initial rounds and the tokens, sorted by cell and by duty, give every device what it begins with. -/
theorem deal_all : iprop(bigSep cells (fun g => semVal g 0) ∗ bigSep cells (fun g => roundState ER (sched m) g 0) ∗ bigSep cells (fun g => reached ER g 0)
      ∗ (bigSep Finset.univ fun c : Dev nD => bigSep Finset.univ (fun i : CellIx => atPos ER (cellAt (c, i)) 0 ∅ 0))
      ∗ (bigSep Finset.univ fun c : Dev nD => iprop((ownToks c 0 ∗ ownToks c 1) ∗ dutyTok ER (barC c) 0 false ∗ dutyTok ER (barC c) 0 true))
      ∗ bigSep Finset.univ fun c : Dev nD => stageSems c)
    ⊢ (|={Set.univ}=> bigSep Finset.univ (dealt m) : sProp 𝕄) := by
  iintro ⟨Hv, Hst, #Hr, Hat, Ht, Hs⟩
  imod (cells_alloc m) $$ [Hv Hst] with ⟨%K, #Hinv⟩
  · isplitl [Hv] <;> iassumption
  ihave Ht := toks_around $$ Ht
  imodintro
  iapply (bigSep_with iprop(bigSep cells (fun g => cellInv ER (sched m) (K g) g) ∗ bigSep cells (fun g => reached ER g 0)) Finset.univ
    (fun c : Dev nD => iprop(bigSep Finset.univ (fun i : CellIx => atPos ER (cellAt (c, i)) 0 ∅ 0)
      ∗ ((payToks c 0 ∗ payToks c 1) ∗ dutyTok ER (barC (leftD c)) 0 false ∗ dutyTok ER (barC (rightD c)) 0 true)
      ∗ stageSems c)) _ (fun c _ => by
        unfold dealt
        iintro ⟨HI, H⟩
        iexists K
        isplitl [HI]; · iexact HI
        iexact H))
  isplitr
  · isplitr; · iexact Hinv
    iexact Hr
  iapply (bigSep_three Finset.univ _ _ _)
  isplitl [Hat]; · iexact Hat
  isplitl [Ht]; · iexact Ht
  iexact Hs

/-- The semaphores at zero and what was minted give every device what it begins with. -/
theorem deal : (bigSep Finset.univ fun c => iprop(ownSems c ∗ unscopedSems0 c ∗ minted m c) : sProp 𝕄) ⊢ |={Set.univ}=> bigSep Finset.univ (dealt m) := by
  have h : ∀ c : Dev nD, iprop(ownSems c ∗ unscopedSems0 c ∗ minted m c)
      ⊢ (iprop(bigSep Finset.univ (fun i : CellIx => semVal (cellAt (c, i)) 0)
        ∗ bigSep Finset.univ (fun i : CellIx => roundState ER (sched m) (cellAt (c, i)) 0)
        ∗ bigSep Finset.univ (fun i : CellIx => reached ER (cellAt (c, i)) 0)
        ∗ bigSep Finset.univ (fun i : CellIx => atPos ER (cellAt (c, i)) 0 ∅ 0)
        ∗ ((ownToks c 0 ∗ ownToks c 1) ∗ dutyTok ER (barC c) 0 false ∗ dutyTok ER (barC c) 0 true)
        ∗ stageSems c) : sProp 𝕄) := fun c => by
    unfold minted
    rw [toks_own]
    iintro ⟨Ho, Hu, Hst, Hr, Hat, Ht⟩
    ihave Hs := (Entails.of_eq (sems_eq (F := F) c)) $$ [Ho Hu]
    · isplitl [Ho] <;> iassumption
    icases Hs with ⟨Hv, Hl⟩
    isplitl [Hv]; · iexact Hv
    isplitl [Hst]; · iexact Hst
    isplitl [Hr]; · iexact Hr
    isplitl [Hat]; · iexact Hat
    isplitl [Ht]; · iexact Ht
    iexact Hl
  refine (bigSep_mono fun c _ => h c).trans ?_
  rw [bigSep_sep', bigSep_sep', bigSep_sep', bigSep_sep', bigSep_sep']
  rw [← cells_all (fun g => (semVal g 0 : sProp 𝕄)), ← cells_all (fun g => (roundState ER (sched m) g 0 : sProp 𝕄)), ← cells_all (fun g => (reached ER g 0 : sProp 𝕄))]
  exact deal_all m

end Cert.RingProof

end
-- ==== Proof.Ends.lean ====
/- What a device begins with and what it ends with: the buffers, the cells at their first rounds and
   the tokens make up the state of the body, and the state that the body leaves closes all cells. -/
module

public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : GSem nD τ sig → ℕ) (c : Dev nD) (d : ℕ)

/-- A row of what returns after `n`: any `n` in turn are all. -/
theorem bigSep_period (n : ℕ) (hn : 0 < n) (Φ : ℕ → sProp 𝕄) (h : ∀ i, Φ (i + n) = Φ i) (a : ℕ) :
    bigSep (Finset.Ico a (a + n)) Φ = bigSep (Finset.Ico 0 n) Φ := by
  induction a with
  | zero => rw [Nat.zero_add]
  | succ a ih =>
    rw [← ih, show a + 1 + n = (a + n) + 1 by omega, bigSep_snoc (by omega), bigSep_cons (show a < a + n by omega), h]

/-- A row over an empty set is empty. -/
theorem bigSep_nil (a : ℕ) (Φ : ℕ → sProp 𝕄) (s : Finset ℕ) (h : s = ∅) : bigSep s Φ = iprop(emp) := by rw [h, bigSep_none]

/-! ## The beginning -/

/-- The rights to wait that a device has at the launch, of one direction. -/
def credits : sProp 𝕄 :=
  iprop(bigSep (Finset.Ico 0 24) (fun j => cred (tallyAt (recvC c d j) (2 * j + 3) N))
    ∗ bigSep (Finset.Ico 10 24) (fun j => cred (tallyAt (credC c d j) (2 * j + 2) 1)))

/-- The rights to wait for messages are a direction's receiving side at the beginning; -/
theorem begin_recv : iprop(bigSep (Finset.Ico 0 24) (fun j => cred (tallyAt (recvC c d j) (2 * j + 3) N))
      ∗ bigSep (Finset.Ico 0 10) (fun q => atPos ER (recvC c d q) 0 ∅ 0)) ⊢ (recvSt c d 0 : sProp 𝕄) := by
  unfold recvSt
  rw [Nat.zero_add, bigSep_congr (s := Finset.Ico 0 10) (fun j hj => show (atPos ER (recvC c d j) (j / 10) ∅ 0 : sProp 𝕄) = atPos ER (recvC c d j) 0 ∅ 0 by
    rw [Nat.div_eq_of_lt (Finset.mem_Ico.mp hj).2])]

/-- the free slots and their cells are its sending side; -/
theorem begin_slot : iprop(ctx m K ∗ bigSep (Finset.Ico 0 2) (fun p => atPos ER (sendC c d p) 0 ∅ 0) ∗ bigSep (Finset.Ico 0 2) (fun p => aAny c d p))
    ⊢ (slotSt c d 0 0 : sProp 𝕄) := by
  unfold slotSt
  rw [Nat.zero_add, bigSep_congr (s := Finset.Ico 0 2) (fun j hj => show (atPos ER (sendC c d j) (j / 2) ∅ 0 : sProp 𝕄) = atPos ER (sendC c d j) 0 ∅ 0 by
    rw [Nat.div_eq_of_lt (Finset.mem_Ico.mp hj).2]), bigSep_nil 0 _ (Finset.Ico 0 0) (by decide)]
  iintro ⟨#Hctx, Hat, Ha⟩
  isplitr; · iempintro
  isplitl [Hat]; · iexact Hat
  iapply (bigSep_with (ctx m K) (Finset.Ico 0 2) (fun p => aAny c d p) _ (fun p hp => by
    rw [Nat.div_eq_of_lt (Finset.mem_Ico.mp hp).2]
    show iprop(ctx m K ∗ aAny c d p) ⊢ (iprop(aAny c d p ∗ reached ER (sendC c d p) 0) : sProp 𝕄)
    iintro ⟨#Hctx, H⟩
    isplitl [H]; · iexact H
    iapply (ctx_reached m K (mem_send c d p)); iexact Hctx))
  isplitr; · iexact Hctx
  iexact Ha

/-- the tokens of the credits are its right to give them; -/
theorem begin_give : (bigSep (Finset.Ico 10 24) (fun j => dutyTok ER (credC (srcD d c) d j) (j / 10 - 1) false) : sProp 𝕄) ⊢ giveSt c d 0 := by
  unfold giveSt
  rw [Nat.zero_add, bigSep_nil 0 _ (Finset.Ico 14 0) (by decide)]
  iintro H
  isplitl [H]; · iexact H
  iempintro

/-- the rights to wait for credits are its crediting side. -/
theorem begin_cred : iprop(bigSep (Finset.Ico 10 24) (fun j => cred (tallyAt (credC c d j) (2 * j + 2) 1))
      ∗ bigSep (Finset.Ico 0 10) (fun q => atPos ER (credC c d q) 0 ∅ 0)) ⊢ (credSt c d 10 : sProp 𝕄) := by
  unfold credSt
  rw [bigSep_congr (s := Finset.Ico 10 (10 + 10)) (fun j hj => show (atPos ER (credC c d j) (j / 10 - 1) ∅ 0 : sProp 𝕄) = atPos ER (credC c d j) 0 ∅ 0 by
    rw [show j / 10 - 1 = 0 by have := Finset.mem_Ico.mp hj; omega]),
    bigSep_period 10 (by decide) (fun j => (atPos ER (credC c d j) 0 ∅ 0 : sProp 𝕄)) (fun i => by rw [credC_add]) 10]

/-- One direction begins. -/
theorem begin_side : iprop(ctx m K ∗ firsts c d ∗ credits c d ∗ payToks c d
      ∗ (bigSep (Finset.Ico 0 8) (wPts m c d) ∗ vAny c (gV d) ∗ semVal ((c : Thread nD τ), .dma (wdS d)) 0)
      ∗ bigSep (Finset.Ico 0 8) (fun t => vAny c (bV d t))
      ∗ (bigSep (Finset.Ico 0 8) (fun t => vAny c (oV d t)) ∗ vAny c (uV d) ∗ semVal ((c : Thread nD τ), .dma (odS d)) 0)
      ∗ rSlots c d ∗ bigSep (Finset.Ico 0 2) (fun p => aAny c d p))
    ⊢ (sidePre m c d : sProp 𝕄) := by
  unfold sidePre firsts credits payToks wIdle bSt oIdle
  rw [bigSep_nil 0 (wPts m c d) (Finset.Ico 0 0) (by decide), bigSep_nil 0 (fun i => vOwn c (bV d i) (wTile m c d i)) (Finset.Ico 0 0) (by decide),
    bigSep_nil 0 (fun i => vOwn c (oV d i) (res m c d i)) (Finset.Ico 0 0) (by decide)]
  iintro ⟨#Hctx, ⟨Has, Har, Hac⟩, ⟨Hcr, Hcc⟩, ⟨Hpost, Hgive⟩, ⟨Hw, Hg, Hws⟩, Hb, ⟨Ho, Hu, Hos⟩, Hr, Ha⟩
  isplitl [Hw Hg Hws]
  · isplitr; · iempintro
    isplitl [Hw]; · iexact Hw
    isplitl [Hg] <;> iassumption
  isplitl [Hb]
  · isplitr; · iempintro
    iexact Hb
  isplitl [Ho Hu Hos]
  · isplitr; · iempintro
    isplitl [Ho]; · iexact Ho
    isplitl [Hu] <;> iassumption
  isplitl [Hr]; · iexact Hr
  isplitl [Hcr Har]
  · iapply (begin_recv c d); isplitl [Hcr] <;> iassumption
  isplitl [Has Ha]
  · iapply (begin_slot m K c d); isplitr; · iexact Hctx
    isplitl [Has] <;> iassumption
  isplitl [Hgive]
  · iapply (begin_give c d); iexact Hgive
  isplitl [Hcc Hac]
  · iapply (begin_cred c d); isplitl [Hcc] <;> iassumption
  iexact Hpost

/-- The buffers of scratch, with any contents. -/
def scratch : sProp 𝕄 := iprop(anyAt c cc0_scratch0 ∗ anyAt c cc0_scratch1 ∗ anyAt c cc0_scratch2 ∗ anyAt c cc0_scratch3 ∗ anyAt c cc0_scratch4)

/-- A device begins. -/
theorem begin_all : iprop(ctx m K ∗ bigSep Finset.univ (fun i : CellIx => atPos ER (cellAt (c, i)) 0 ∅ 0)
      ∗ ((payToks c 0 ∗ payToks c 1) ∗ dutyTok ER (barC (leftD c)) 0 false ∗ dutyTok ER (barC (rightD c)) 0 true) ∗ stageSems c
      ∗ (credits c 0 ∗ credits c 1 ∗ cred (tallyAt (barC c) 1 2))
      ∗ ((c : Thread nD τ).loc main_arg1 ↦{fullShare} (m ((c : Thread nD τ).loc main_arg1))) ∗ anyAt c main_v1 ∗ scratch c)
    ⊢ (iprop(sidePre m c 0 ∗ sidePre m c 1 ∗ barSt c) : sProp 𝕄) := by
  rw [cells_own c (fun g => atPos ER g 0 ∅ 0), w_tiles]
  unfold stageSems scratch barSt
  iintro ⟨#Hctx, ⟨⟨Hf₀, Hf₁⟩, Hbar⟩, ⟨⟨Hp₀, Hp₁⟩, Htl, Htr⟩, ⟨⟨Hwd₀, Hwd₁⟩, Hod₀, Hod₁⟩, ⟨Hc₀, Hc₁, Hcb⟩, ⟨Hw₀, Hw₁⟩, Hv, Ha, Hr, Hb, Hg, Hu⟩
  ihave Ho := (o_tiles c) $$ Hv
  icases Ho with ⟨Ho₀, Ho₁⟩
  ihave Ha := (a_slots c) $$ Ha
  icases Ha with ⟨Ha₀, Ha₁⟩
  ihave Hr := (r_slots c) $$ Hr
  icases Hr with ⟨Hr₀, Hr₁⟩
  ihave Hb := (b_tiles c) $$ Hb
  icases Hb with ⟨Hb₀, Hb₁⟩
  ihave Hg := (g_slots c) $$ Hg
  icases Hg with ⟨Hg₀, Hg₁⟩
  ihave Hu := (u_slots c) $$ Hu
  icases Hu with ⟨Hu₀, Hu₁⟩
  isplitl [Hf₀ Hc₀ Hp₀ Hw₀ Hg₀ Hwd₀ Hb₀ Ho₀ Hu₀ Hod₀ Hr₀ Ha₀]
  · iapply (begin_side m K c 0)
    unfold firsts
    isplitr; · iexact Hctx
    isplitl [Hf₀]; · iexact Hf₀
    isplitl [Hc₀]; · iexact Hc₀
    isplitl [Hp₀]; · iexact Hp₀
    isplitl [Hw₀ Hg₀ Hwd₀]
    · isplitl [Hw₀]; · iexact Hw₀
      isplitl [Hg₀] <;> iassumption
    isplitl [Hb₀]; · iexact Hb₀
    isplitl [Ho₀ Hu₀ Hod₀]
    · isplitl [Ho₀]; · iexact Ho₀
      isplitl [Hu₀] <;> iassumption
    isplitl [Hr₀] <;> iassumption
  isplitl [Hf₁ Hc₁ Hp₁ Hw₁ Hg₁ Hwd₁ Hb₁ Ho₁ Hu₁ Hod₁ Hr₁ Ha₁]
  · iapply (begin_side m K c 1)
    unfold firsts
    isplitr; · iexact Hctx
    isplitl [Hf₁]; · iexact Hf₁
    isplitl [Hc₁]; · iexact Hc₁
    isplitl [Hp₁]; · iexact Hp₁
    isplitl [Hw₁ Hg₁ Hwd₁]
    · isplitl [Hw₁]; · iexact Hw₁
      isplitl [Hg₁] <;> iassumption
    isplitl [Hb₁]; · iexact Hb₁
    isplitl [Ho₁ Hu₁ Hod₁]
    · isplitl [Ho₁]; · iexact Ho₁
      isplitl [Hu₁] <;> iassumption
    isplitl [Hr₁] <;> iassumption
  isplitl [Htl]; · iexact Htl
  isplitl [Htr]; · iexact Htr
  isplitl [Hbar] <;> iassumption

/-! ## The end -/

/-- A row of cells whose rounds are over. -/
theorem close_row (s : Finset ℕ) (f : ℕ → GSem nD τ sig) (r : ℕ → ℕ) (hf : ∀ j ∈ s, f j ∈ cells) (hr : ∀ j ∈ s, ∀ r' ≥ r j, (sched m).duties (f j) r' = ∅) :
    iprop(ctx m K ∗ bigSep s (fun j => atPos ER (f j) (r j) ∅ 0)) ⊢ (|={Set.univ}=> bigSep s (fun j => semVal (f j) 0) : sProp 𝕄) := by
  refine (bigSep_with (ctx m K) s (fun j => (atPos ER (f j) (r j) ∅ 0 : sProp 𝕄)) (fun j => iprop(|={Set.univ}=> semVal (f j) 0)) fun j hj => ?_).trans
    (bigSep_fupd (E := Set.univ) s _)
  show iprop(ctx m K ∗ atPos ER (f j) (r j) ∅ 0) ⊢ (iprop(|={Set.univ}=> semVal (f j) 0) : sProp 𝕄)
  iintro ⟨#Hctx, Hat⟩
  iapply (Rounds.cell_close ER (sched m) (Set.mem_univ (K (f j))) (fun h => h) (R := r j) (hr j hj))
  isplitr; · iapply (ctx_cell m K (hf j hj)); iexact Hctx
  iexact Hat

/-- A barrier that has been passed ends at zero. -/
theorem close_bar : iprop(ctx m K ∗ atPos ER (barC c) 1 ∅ 0) ⊢ (|={Set.univ}=> semVal (barC c) 0 : sProp 𝕄) := by
  iintro ⟨#Hctx, Hat⟩
  iapply (Rounds.cell_close ER (sched m) (Set.mem_univ (K (barC c))) (fun h => h) (R := 1) (fun r hr => done_bar m c r hr))
  isplitr; · iapply (ctx_cell m K (mem_bar c)); iexact Hctx
  iexact Hat

/-- The semaphores of one direction at zero. -/
def zeros : sProp 𝕄 :=
  iprop(bigSep (Finset.Ico 0 2) (fun p => semVal (sendC c d p) 0) ∗ bigSep (Finset.Ico 0 10) (fun q => semVal (recvC c d q) 0)
    ∗ bigSep (Finset.Ico 0 10) (fun q => semVal (credC c d q) 0))

/-- One direction ends. -/
theorem end_side : iprop(ctx m K ∗ sidePost m c d)
    ⊢ (|={Set.univ}=> iprop(zeros c d
      ∗ (bigSep (Finset.Ico 0 8) (wPts m c d) ∗ vAny c (gV d) ∗ semVal ((c : Thread nD τ), .dma (wdS d)) 0)
      ∗ bigSep (Finset.Ico 0 8) (fun t => vAny c (bV d t))
      ∗ (bigSep (Finset.Ico 0 8) (fun t => vOwn c (oV d t) (res m c d t)) ∗ vAny c (uV d) ∗ semVal ((c : Thread nD τ), .dma (odS d)) 0)
      ∗ rSlots c d ∗ bigSep (Finset.Ico 0 2) (fun p => aAny c d p)) : sProp 𝕄) := by
  unfold sidePost wIdle bDone oIdle recvSt slotSt giveSt credSt zeros rSlots
  rw [← bigSep_period 10 (by decide) (fun j => (rAny c d j : sProp 𝕄)) (fun i => by rw [rAny_add]) 14,
    ← bigSep_period 2 (by decide) (fun j => (aAny c d j : sProp 𝕄)) (fun i => by rw [aAny_add]) 24,
    ← bigSep_period 2 (by decide) (fun j => (semVal (sendC c d j) 0 : sProp 𝕄)) (fun i => by rw [sendC_add]) 24,
    ← bigSep_period 10 (by decide) (fun j => (semVal (recvC c d j) 0 : sProp 𝕄)) (fun i => by rw [recvC_add]) 24,
    ← bigSep_period 10 (by decide) (fun j => (semVal (credC c d j) 0 : sProp 𝕄)) (fun i => by rw [credC_add]) 24]
  iintro ⟨#Hctx, ⟨Hw, -, Hg, Hws⟩, Hb, ⟨Ho, -, Hu, Hos⟩, ⟨-, Har⟩, ⟨-, Has, Ha⟩, ⟨-, Hr⟩, ⟨-, Hac⟩⟩
  imod (close_row m K (Finset.Ico 24 (24 + 2)) (sendC c d) (fun j => j / 2) (fun j _ => mem_send c d j)
    (fun j hj r hr => done_send m c d j (Finset.mem_Ico.mp hj).1 r hr)) $$ [Has] with Hzs
  · isplitr; · iexact Hctx
    iexact Has
  imod (close_row m K (Finset.Ico 24 (24 + 10)) (recvC c d) (fun j => j / 10) (fun j _ => mem_recv c d j)
    (fun j hj r hr => done_recv m c d j (Finset.mem_Ico.mp hj).1 r hr)) $$ [Har] with Hzr
  · isplitr; · iexact Hctx
    iexact Har
  imod (close_row m K (Finset.Ico 24 (24 + 10)) (credC c d) (fun j => j / 10 - 1) (fun j _ => mem_cred c d j)
    (fun j hj r hr => done_cred m c d j (Finset.mem_Ico.mp hj).1 r hr)) $$ [Hac] with Hzc
  · isplitr; · iexact Hctx
    iexact Hac
  imodintro
  isplitl [Hzs Hzr Hzc]
  · isplitl [Hzs]; · iexact Hzs
    isplitl [Hzr] <;> iassumption
  isplitl [Hw Hg Hws]
  · isplitl [Hw]; · iexact Hw
    isplitl [Hg] <;> iassumption
  isplitl [Hb]
  · iapply (show (bigSep (Finset.Ico 0 8) (fun i => vOwn c (bV d i) (wTile m c d i)) : sProp 𝕄) ⊢ bigSep (Finset.Ico 0 8) (fun t => vAny c (bV d t)) from
      bigSep_mono fun i _ => vOwn_any c _ _)
    iexact Hb
  isplitl [Ho Hu Hos]
  · isplitl [Ho]; · iexact Ho
    isplitl [Hu] <;> iassumption
  isplitl [Hr]
  · iapply (show (bigSep (Finset.Ico 14 24) (fun j => rAny c d j) : sProp 𝕄) ⊢ bigSep (Finset.Ico 14 (14 + 10)) (fun j => rAny c d j) from .rfl)
    iexact Hr
  iapply (show (bigSep (Finset.Ico 24 (24 + 2)) (fun i => iprop(aAny c d i ∗ reached ER (sendC c d i) (i / 2))) : sProp 𝕄)
    ⊢ bigSep (Finset.Ico 24 (24 + 2)) (fun j => aAny c d j) from bigSep_mono fun i _ => by
      show iprop(aAny c d i ∗ reached ER (sendC c d i) (i / 2)) ⊢ (aAny c d i : sProp 𝕄)
      iintro ⟨H, -⟩; iexact H)
  iexact Ha

/-- The rows of the result that a device has computed. -/
def results : sProp 𝕄 :=
  iprop(bigSep (Finset.Ico 0 8) (fun t => vOwn c (oV 0 t) (res m c 0 t)) ∗ bigSep (Finset.Ico 0 8) (fun t => vOwn c (oV 1 t) (res m c 1 t)))

/-- A device ends. -/
theorem end_all : iprop(ctx m K ∗ sidePost m c 0 ∗ sidePost m c 1 ∗ atPos ER (barC c) 1 ∅ 0)
    ⊢ (|={Set.univ}=> iprop((((c : Thread nD τ).loc main_arg1 ↦{fullShare} (m ((c : Thread nD τ).loc main_arg1))) ∗ results m c)
      ∗ (ownSems c ∗ unscopedSems0 c) ∗ scratch c) : sProp 𝕄) := by
  rw [sems_eq, cells_own c (fun g => semVal g 0), w_tiles]
  iintro ⟨#Hctx, H₀, H₁, Hbar⟩
  imod (end_side m K c 0) $$ [H₀] with ⟨Hz₀, ⟨Hw₀, Hg₀, Hwd₀⟩, Hb₀, ⟨Ho₀, Hu₀, Hod₀⟩, Hr₀, Ha₀⟩
  · isplitr; · iexact Hctx
    iexact H₀
  imod (end_side m K c 1) $$ [H₁] with ⟨Hz₁, ⟨Hw₁, Hg₁, Hwd₁⟩, Hb₁, ⟨Ho₁, Hu₁, Hod₁⟩, Hr₁, Ha₁⟩
  · isplitr; · iexact Hctx
    iexact H₁
  imod (close_bar m K c) $$ [Hbar] with Hzb
  · isplitr; · iexact Hctx
    iexact Hbar
  imodintro
  unfold stageSems scratch results zeros
  isplitl [Hw₀ Hw₁ Ho₀ Ho₁]
  · isplitl [Hw₀ Hw₁]
    · isplitl [Hw₀] <;> iassumption
    isplitl [Ho₀] <;> iassumption
  isplitl [Hz₀ Hz₁ Hzb Hwd₀ Hwd₁ Hod₀ Hod₁]
  · isplitl [Hz₀ Hz₁ Hzb]
    · isplitl [Hz₀ Hz₁]
      · isplitl [Hz₀] <;> iassumption
      iexact Hzb
    isplitl [Hwd₀ Hwd₁]
    · isplitl [Hwd₀] <;> iassumption
    isplitl [Hod₀] <;> iassumption
  isplitl [Ha₀ Ha₁]
  · iapply (a_join c); isplitl [Ha₀] <;> iassumption
  isplitl [Hr₀ Hr₁]
  · iapply (r_join c); isplitl [Hr₀] <;> iassumption
  isplitl [Hb₀ Hb₁]
  · iapply (b_join c); isplitl [Hb₀] <;> iassumption
  isplitl [Hg₀ Hg₁]
  · iapply (g_join c); isplitl [Hg₀] <;> iassumption
  iapply (u_join c); isplitl [Hu₀] <;> iassumption

end Cert.RingProof

end
-- ==== Proof.Launch.lean ====
/- The launch: every device is given its cells, tokens and rights to wait, the kernel's body runs on
   it, and what is left at the end says what the arrays hold. -/
module

public import proofs.«01_k».proof.Proof.Ends
public import proofs.«01_k».proof.Proof.Gen.KernelIdeal.Frame
public import Idealize.ShloMosaic.Lib.Quiescent
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : GSem nD τ sig → ℕ) (c : Dev nD)

/-! ## The rights to wait -/

/-- What is due to device `c`, of one direction; -/
def dueD (c : Dev nD) (d : ℕ) : CellTallies nD τ sig ℕ :=
  (∑ j ∈ Finset.Ico 0 24, tallyAt (recvC c d j) (2 * j + 3) N) + ∑ j ∈ Finset.Ico 10 24, tallyAt (credC c d j) (2 * j + 2) 1
/-- in all. -/
def due (c : Dev nD) : CellTallies nD τ sig ℕ := dueD c 0 + dueD c 1 + tallyAt (barC c) 1 2

/-- Everything in `T` is about the cells of device `c`. -/
def OnDev (c : Dev nD) (T : CellTallies nD τ sig ℕ) : Prop := ∀ g, T g ≠ 0 → g.1 = (c : Thread nD τ)

/-- A debt to one cell of device `c` is on device `c`. -/
theorem OnDev.tally (c : Dev nD) (sm : SemLoc sig) (i n : ℕ) : OnDev c (tallyAt ((c : Thread nD τ), sm) i n) := fun g hg => by
  by_contra h
  exact hg (tallyAt_ne_cell (fun e => h (congrArg Prod.fst e)) i n)
/-- Two debts on device `c` are together on it. -/
theorem OnDev.add {c : Dev nD} {T T' : CellTallies nD τ sig ℕ} (h : OnDev c T) (h' : OnDev c T') : OnDev c (T + T') := fun g hg => by
  by_contra hn
  exact hg (by rw [Pi.add_apply, by_contra (fun h0 => hn (h g h0)), by_contra (fun h0 => hn (h' g h0)), add_zero])
/-- A sum of debts on device `c` is on it. -/
theorem OnDev.sum {c : Dev nD} (s : Finset ℕ) (f : ℕ → CellTallies nD τ sig ℕ) (h : ∀ j ∈ s, OnDev c (f j)) : OnDev c (∑ j ∈ s, f j) := by
  classical
  induction s using Finset.induction_on with
  | empty => exact fun g hg => absurd (by rw [Finset.sum_empty]; rfl) hg
  | insert j s hj ih =>
    rw [Finset.sum_insert hj]
    exact (h j (Finset.mem_insert_self _ _)).add (ih fun i hi => h i (Finset.mem_insert_of_mem hi))

/-- All that is due to device `c` is on it. -/
theorem due_on : OnDev c (due c) :=
  (OnDev.add (OnDev.add (OnDev.sum _ _ fun _ _ => OnDev.tally _ _ _ _) (OnDev.sum _ _ fun _ _ => OnDev.tally _ _ _ _))
    (OnDev.add (OnDev.sum _ _ fun _ _ => OnDev.tally _ _ _ _) (OnDev.sum _ _ fun _ _ => OnDev.tally _ _ _ _))).add (OnDev.tally _ _ _ _)

/-- All devices together owe what is due to all. -/
theorem owed_due : ∑ c : Dev nD, owed c = ∑ c : Dev nD, due c := by
  have h : ∀ d, ∑ c : Dev nD, owe c d 0 = ∑ c : Dev nD, dueD c d := fun d => by
    unfold owe oweC oweV dueD
    rw [Finset.sum_add_distrib, Finset.sum_add_distrib, add_comm]
    exact congrArg₂ (· + ·) ((ringE d).sum_comp fun c => ∑ j ∈ Finset.Ico 0 24, tallyAt (recvC c d j) (2 * j + 3) N)
      ((ringE d).symm.sum_comp fun c => ∑ j ∈ Finset.Ico 10 24, tallyAt (credC c d j) (2 * j + 2) 1)
  unfold owed due
  simp only [Finset.sum_add_distrib]
  rw [h, h, add_assoc]
  congr 1
  have h₀ := (ringE 0).sum_comp fun c => (tallyAt (barC c) 1 1 : CellTallies nD τ sig ℕ)
  have h₁ := (ringE 0).symm.sum_comp fun c => (tallyAt (barC c) 1 1 : CellTallies nD τ sig ℕ)
  refine (congrArg₂ (· + ·) h₀ h₁).trans ?_
  rw [← Finset.sum_add_distrib]
  exact Finset.sum_congr rfl fun c _ => tallyAt_add _ _ 1 1

/-- The launch gives device `c` the right to wait for all that the devices owe it. -/
theorem rights : (Pipeline.launchCred owed c : sProp 𝕄) ⊢ iprop(credits c 0 ∗ credits c 1 ∗ cred (tallyAt (barC c) 1 2)) := by
  have hd : ∀ d, (cred (dueD c d) : sProp 𝕄) ⊢ credits c d := fun d => by
    unfold dueD credits
    iintro H
    ihave H := (cred_add _ _).1 $$ H
    icases H with ⟨Hr, Hc⟩
    isplitl [Hr]
    · iapply (Entails.of_eq (Pipeline.cred_finsetSum (Finset.Ico 0 24) fun j => (tallyAt (recvC c d j) (2 * j + 3) N : CellTallies nD τ sig ℕ))); iexact Hr
    · iapply (Entails.of_eq (Pipeline.cred_finsetSum (Finset.Ico 10 24) fun j => (tallyAt (credC c d j) (2 * j + 2) 1 : CellTallies nD τ sig ℕ))); iexact Hc
  rw [Pipeline.launchCred_of_sum owed due owed_due due_on c]
  unfold due
  iintro H
  ihave H := (cred_add _ _).1 $$ H
  icases H with ⟨H, Hb⟩
  ihave H := (cred_add _ _).1 $$ H
  icases H with ⟨H₀, H₁⟩
  isplitl [H₀]; · iapply (hd 0); iexact H₀
  isplitl [H₁]; · iapply (hd 1); iexact H₁
  iexact Hb

/-! ## The kernel's body in its pipeline -/

/-- What a device starts from. -/
def begun : sProp 𝕄 :=
  iprop(dealt m c ∗ (credits c 0 ∗ credits c 1 ∗ cred (tallyAt (barC c) 1 2)) ∗ levs
    ∗ ((c : Thread nD τ).loc main_arg1 ↦{fullShare} (m ((c : Thread nD τ).loc main_arg1))) ∗ anyAt c main_v1)
/-- What it leaves. -/
def left : sProp 𝕄 :=
  iprop((((c : Thread nD τ).loc main_arg1 ↦{fullShare} (m ((c : Thread nD τ).loc main_arg1))) ∗ results m c) ∗ unscopedSems0 c)
/-- What the body has before it runs, besides its input and its debts; -/
def Φ₀ : sProp 𝕄 := iprop(begun m c ∗ scratch c)
/-- and what it has afterwards. -/
def Φ₁ : sProp 𝕄 := iprop((((((c : Thread nD τ).loc main_arg1 ↦{fullShare} (m ((c : Thread nD τ).loc main_arg1))) ∗ results m c)
      ∗ (ownSems c ∗ unscopedSems0 c) ∗ scratch c)))

/-- The pipeline's one step: it brings the input in whole, and goes from `Φ₀` with all debts to `Φ₁` with none. -/
def dats (_ : Fin 1) (c : Dev nD) : Dat τ (Elt F) ℕ ℕ UU ℕ cfg0 c where
  A w := m ((cfg0.win w).arr.view.loc (c : Thread nD τ))
  after w _ := match w with
    | ⟨0, _⟩ => xAll m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => owed c
    | ⟨_ + 1, _⟩ => 0

/-- The input's buffer holds `X`. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- To own a whole buffer that reads `X` is to own it with contents `X`. -/
theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- All that the body has before it runs, -/
def bodyPre : sProp 𝕄 :=
  iprop(Φ₀ m c ∗ (dats m 0 c).owesAt 0 t0_0.castSucc ∗ (∃ d, stg c ((dats m 0 c).before (0 : Fin 1) t0_0 d)))
/-- and all that it has afterwards. -/
def bodyPost : sProp 𝕄 :=
  iprop(Φ₁ m c ∗ (dats m 0 c).owesAt 0 t0_0.succ ∗ stg c (xAll m c))

/-- The end of a program may still open invariants. -/
theorem wp_closing (p : PR F PUnit) (Q : sProp 𝕄) : WP c p (fun _ => iprop(|={Set.univ}=> Q)) ⊢ (WP c p (fun _ => Q) : sProp 𝕄) :=
  wp_fupd _ _ _ _ _

/-- The body's steps run without fault from the one to the other. -/
theorem body_sound : bodyPre m c ⊢ (WP c (steps (Memref.whole cc0_stg0_0)) (fun _ => bodyPost m c) : sProp 𝕄) := by
  unfold bodyPre Φ₀ begun dealt Dat.owesAt Pipeline.owesWithin
  rw [show (dats m 0 c).owed t0_0.castSucc = owed c from rfl]
  iintro ⟨⟨⟨⟨%K, ⟨#Hinv, #Hre⟩, Hat, Htok, Hsem⟩, Hcr, #Hlev, Hw, Hv⟩, Hs⟩, ⟨%W, -, HO⟩, ⟨%d, ⟨%g, %hg, Hx⟩⟩⟩
  have hx : g = xAll m c := by rw [hg]; unfold Dat.before; rw [if_pos (fetch0_0 t0_0)]; rfl
  subst hx
  ihave #Hctx := (show iprop(bigSep cells (fun g => cellInv ER (sched m) (K g) g) ∗ bigSep cells (fun g => reached ER g 0) ∗ levs) ⊢ (ctx m K : sProp 𝕄) from .rfl) $$ []
  · isplitr; · iexact Hinv
    isplitr; · iexact Hre
    iexact Hlev
  ihave Hpre := (begin_all m K c) $$ [Hat Htok Hsem Hcr Hw Hv Hs]
  · isplitr; · iexact Hctx
    isplitl [Hat]; · iexact Hat
    isplitl [Htok]; · iexact Htok
    isplitl [Hsem]; · iexact Hsem
    isplitl [Hcr]; · iexact Hcr
    isplitl [Hw]; · iexact Hw
    isplitl [Hv] <;> iassumption
  icases Hpre with ⟨H₀, H₁, Hb⟩
  iapply (wp_closing c (steps (Memref.whole cc0_stg0_0)) (bodyPost m c))
  iapply (wp_steps m K c (fun _ => iprop(|={Set.univ}=> bodyPost m c))) $$ [H₀ H₁ Hb Hx HO]
  · isplitr; · iexact Hctx
    isplitl [Hx]; · unfold xPts; iexact Hx
    isplitl [H₀]; · iexact H₀
    isplitl [H₁]; · iexact H₁
    isplitl [Hb]; · iexact Hb
    unfold owing
    iexists W; iexact HO
  unfold owing
  iintro ⟨Hx, H₀, H₁, Hat, ⟨%W', HO⟩⟩
  imod (end_all m K c) $$ [H₀ H₁ Hat] with Hend
  · isplitr; · iexact Hctx
    isplitl [H₀]; · iexact H₀
    isplitl [H₁] <;> iassumption
  imodintro
  unfold bodyPost Φ₁ Dat.owesAt Pipeline.owesWithin xPts
  rw [show (dats m 0 c).owed t0_0.succ = 0 from rfl]
  isplitl [Hend]; · iexact Hend
  isplitl [HO]
  · iexists W'
    isplitr; · ipureintro; exact fun _ _ => Or.inl trivial
    iexact HO
  iexists _; isplitr; · (ipureintro; rfl)
  iexact Hx

set_option maxRecDepth 100000 in
/-- So the printed body does what the pipeline asks of it. -/
theorem body_obligation : BodyObligation (dats (F := F) m 0 c) (defs₀ (F := F)) 𝒱₀ 0 Set.univ := fun t => by
  rw [fin_N0 t]
  rw [bigSep_W0, bigSep_W0]
  simp only [owns_whole_eq]
  show bodyPre m c ⊢ wp frame (wpE (defs₀ (F := F)) 𝒱₀ c none) Set.univ
    (cc0_body (F := F) (Memref.whole cc0_stg0_0) (Memref.isWhole_whole _) wM (Memref.isWhole_whole _) oM (Memref.isWhole_whole _) aM (Memref.isWhole_whole _)
      rM (Memref.isWhole_whole _) bM (Memref.isWhole_whole _) gM (Memref.isWhole_whole _) uM (Memref.isWhole_whole _)
      cc0_scratch5 cc0_scratch6 cc0_scratch7 cc0_scratch8 cc0_scratch9) (fun _ => bodyPost m c)
  rw [body_eq]
  exact body_sound m c

/-! ## The launch -/

/-- The pipeline holds its input's whole share. -/
theorem share_eq (w : Fin cfg0.W) : (dats m 0 c).share w = fullShare := by unfold Dat.share; split <;> rfl

/-- The ghost state at the launch. -/
def u₀ : UU := (initOf (Pipeline.cells cfgs cellOf_inj) (Pipeline.launchToks cfgs cellOf_inj), (initOf cells allToks, 1))

/-- It falls into the pipeline's part and the rounds of the cells. -/
theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- The arrays, the rights to wait and what was dealt are what a device starts from. -/
theorem begun_intro :
    iprop(Pipeline.unscopedRestP Pipeline.Prefetch.none cfg0.spec c (fun b => m ((c : Thread nD τ).loc b)) ∗ levs
        ∗ Pipeline.launchCred owed c ∗ prngReg c (ρ c) ∗ dealt m c)
      ⊢ (|={Set.univ}=> iprop(begun m c ∗ emp) : sProp 𝕄) := by
  rw [Pipeline.unscopedRestP_none, unscopedRest0_eq]
  unfold begun
  iintro ⟨⟨Hw, Hv⟩, Hlev, Hcr, -, Hd⟩
  ihave Hcr := (rights c) $$ Hcr
  imodintro
  isplitl
  · isplitl [Hd]; · iexact Hd
    isplitl [Hcr]; · iexact Hcr
    isplitl [Hlev]; · iexact Hlev
    isplitl [Hw]; · iexact Hw
    unfold anyAt
    iexists _; iexact Hv
  · iempintro

/-- What a device starts from, with the buffers of scratch, is what the body has before it runs; -/
theorem phi_first :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch anyAt
  iintro ⟨Hs, -, H⟩
  isplitl [Hs]; · iexact Hs
  iexact H

/-- what the body has afterwards is what the device leaves, its semaphores at zero and the buffers of scratch. -/
theorem phi_last :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left scratch anyAt
  iintro ⟨Hw, ⟨Ho, Hu⟩, H⟩
  isplitl [Hw Hu]
  · isplitl [Hw] <;> iassumption
  isplitl [Ho]; · iexact Ho
  iexact H

/-- The pipeline may wait for its own copies. -/
theorem waits : (levs : sProp 𝕄) ⊢ Pipeline.cellsWaits cfgs (dats m) 0 0 c :=
  Pipeline.cellsWaits_intro cfgs (dats m) 0 0 c fun w s t => by
    refine mayWait c _ (show 0 < 1 by decide) (by decide) ?_
    rcases t with ⟨_ | _, ht⟩
    · exact ((((owe_over c 0 0).mono (by omega)).add ((owe_over c 1 0).mono (by omega))).add
        (Over.tally _ _ (by omega) (by decide))).add (Over.tally _ _ (by omega) (by decide))
    · exact Over.zero 1

/-! ## Reading the end -/

/-- A tile of the result that is owned is the tile in memory. -/
theorem read_tile (s' : Phys nD τ sig (Elt F)) (d t : ℕ) : iprop(vOwn c (oV d t) (res m c d t) ∗ SI s')
    ⊢ (⌜(oV d t).view.read (Elt F) (s'.mem.mem ((c : Thread nD τ).loc main_v1)) = res m c d t⌝ : sProp 𝕄) := by
  unfold vOwn
  iintro ⟨⟨%f, %hf, H⟩, HSI⟩
  icombine HSI H gives %h
  ipureintro
  rw [← hf]
  exact View.read_congr h

/-- So are the first `n` tiles of a direction. -/
theorem read_row (s' : Phys nD τ sig (Elt F)) (d n : ℕ) : iprop(bigSep (Finset.Ico 0 n) (fun t => vOwn c (oV d t) (res m c d t)) ∗ SI s')
    ⊢ (⌜∀ t < n, (oV d t).view.read (Elt F) (s'.mem.mem ((c : Thread nD τ).loc main_v1)) = res m c d t⌝ : sProp 𝕄) := by
  induction n with
  | zero =>
    iintro -
    ipureintro; exact fun t h => absurd h (Nat.not_lt_zero t)
  | succ n ih =>
    rw [bigSep_snoc (Nat.zero_le n)]
    iintro ⟨⟨Hn, H⟩, HSI⟩
    ihave %h1 := (read_tile m c s' d n) $$ [Hn HSI]
    · isplitl [Hn] <;> iassumption
    ihave %h2 := ih $$ [H HSI]
    · isplitl [H] <;> iassumption
    ipureintro
    exact fun t ht => (Nat.lt_succ_iff_lt_or_eq.mp ht).elim (h2 t) (fun e => e ▸ h1)

/-- What the end says of a device. -/
def Ends (c : Dev nD) (s : MemSt nD τ sig (Elt F)) : Prop :=
  (s.mem ((c : Thread nD τ).loc main_arg1) = m ((c : Thread nD τ).loc main_arg1)
    ∧ ∀ d < 2, ∀ t < 8, (oV d t).view.read (Elt F) (s.mem ((c : Thread nD τ).loc main_v1)) = res m c d t)
  ∧ ∀ sm : SemLoc sig, sm.isScoped .tc = false → s.sem ((c : Thread nD τ), sm) = 0

/-- What a device leaves says what is in memory at the end. -/
theorem read_end (s' : Phys nD τ sig (Elt F)) : iprop(left m c ∗ emp ∗ SI s') ⊢ (|={Set.univ}=> iprop(⌜Ends m c s'.mem⌝ ∗ SI s') : sProp 𝕄) := by
  unfold left results
  iintro ⟨⟨⟨Hw, H₀, H₁⟩, Hu⟩, -, HSI⟩
  ihave %hw := (show iprop(((c : Thread nD τ).loc main_arg1 ↦{fullShare} (m ((c : Thread nD τ).loc main_arg1))) ∗ SI s')
      ⊢ (⌜s'.mem.mem ((c : Thread nD τ).loc main_arg1) = m ((c : Thread nD τ).loc main_arg1)⌝ : sProp 𝕄) from by
    iintro ⟨H, HSI⟩
    icombine HSI H gives %h
    ipureintro
    exact Buf.eq_of_forall_mem_univ h) $$ [Hw HSI]
  · isplitl [Hw] <;> iassumption
  ihave %h₀ := (read_row m c s' 0 8) $$ [H₀ HSI]
  · isplitl [H₀] <;> iassumption
  ihave %h₁ := (read_row m c s' 1 8) $$ [H₁ HSI]
  · isplitl [H₁] <;> iassumption
  imod (Pipeline.unscopedSems0_read (X := unscopedSems0 c) (c := c) fupd_intro s') $$ [Hu HSI] with ⟨%hz, HSI⟩
  · isplitl [Hu] <;> iassumption
  imodintro
  isplitr
  · ipureintro
    refine ⟨⟨hw, fun d hd t ht => ?_⟩, hz⟩
    match d, hd with
    | 0, _ => exact h₀ t ht
    | 1, _ => exact h₁ t ht
  iexact HSI

/-! ## The run -/

set_option maxRecDepth 100000 in
/-- From any memory with zero counters, every weakly fair execution of the four kernels terminates;
    at the end each device's arguments are unchanged, the tiles of its result hold `res`, and every
    semaphore is zero. -/
theorem run_main : θ_run defs (onTc (τ := τ) (main (F := F))) ⟨m, fun _ => 0, ρ⟩ (fun r =>
    (∀ c : Dev nD, (r.2.mem ((c : Thread nD τ).loc main_arg0) = m ((c : Thread nD τ).loc main_arg0)
      ∧ r.2.mem ((c : Thread nD τ).loc main_arg1) = m ((c : Thread nD τ).loc main_arg1))
      ∧ ∀ d < 2, ∀ t < 8, (oV d t).view.read (Elt F) (r.2.mem ((c : Thread nD τ).loc main_v1)) = res m c d t)
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun c => (main_chain c).trans rfl)
    (hbody := body_obligation m) (hne := block_pos0) (harr := arr_whole0) (hstage := stage_whole0) (hshare := share_eq m)
    (hdistinct := winFacts0.arr_inj)
    (O₀ := owed) (howed₀ := fun _ => rfl) (howedN := fun _ => rfl)
    (L := SiteBlocks.L NI) (lv := SiteBlocks.lv) (hL := SiteBlocks.hL NI) (hwaits := waits m)
    (G := minted m) (G' := dealt m) (u₀ := u₀)
    (hu₀ := by
      unfold u₀
      iintro Hu
      ihave H := (launch_split _ _) $$ Hu
      icases H with ⟨HP, HX⟩
      imod (mint m) $$ HX with HG
      imodintro
      isplitl [HP] <;> iassumption)
    (hglob := deal m)
    (hA := fun _ _ => rfl) (hpf := fun _ k => k.elim0)
    (X := begun m) (Y := left m) (Z := fun _ => iprop(emp))
    (hX := begun_intro m ρ) (hin := phi_first m) (hout := phi_last m)
    (QY := Ends m) (hY := read_end m)
    (hQ := fun _ h hs => ⟨fun c => ⟨⟨((h c).1 0).trans ((dats m 0 c).arrAt_in (0 : Fin 1) rfl _), (h c).2.2.1.1⟩, (h c).2.2.1.2⟩,
      sem_eq_zero hs fun c => (h c).2.2.2⟩)

end Cert.RingProof

end
-- ==== Proof.Twin.lean ====
/- The two programs of the ring kernel have the same text. -/
module

public import proofs.«01_k».proof.Proof.Launch
public import proofs.«01_k».proof.Proof.Gen.Kernel

@[expose] public section

noncomputable section

namespace Cert.RingProof

open Idealize.ShloMosaic Idealize.SL.Sem

variable {F : FTy → Type} [FloatOps F]

set_option maxRecDepth 100000 in
set_option maxHeartbeats 4000000 in
/-- The body of the kernel as compiled is the steps of the one over any float values. -/
theorem body_twin (xM : Memref Cert.KernelIdeal.sig .tc .vmem Cert.KernelIdeal.S4096x1024 .bf16) (hx : xM.IsWhole) :
    (Cert.Kernel.cc0_body (F := F) xM hx wM (Memref.isWhole_whole _) oM (Memref.isWhole_whole _) aM (Memref.isWhole_whole _) rM (Memref.isWhole_whole _) bM (Memref.isWhole_whole _)
      gM (Memref.isWhole_whole _) uM (Memref.isWhole_whole _) Cert.Kernel.cc0_scratch5 Cert.Kernel.cc0_scratch6 Cert.Kernel.cc0_scratch7 Cert.Kernel.cc0_scratch8 Cert.Kernel.cc0_scratch9 : PR F PUnit) = steps xM := by
  repeat refine peel fun _ => ?_
  rfl

/-- The bodies of the two programs' kernels are the same; -/
theorem kernels_twin : Cert.Kernel.defs₀ (F := F) = Cert.KernelIdeal.defs₀ (F := F) :=
  congrArg Defs.onTc (funext fun l => funext fun a => match l, a with
    | ⟨0, _⟩, _ => (body_twin _ _).trans (body_eq _ _).symm)

/-- so are all their definitions -/
theorem defs_twin : Cert.Kernel.defs (F := F) = Cert.KernelIdeal.defs (F := F) :=
  congrArg (Pipeline.defs Cert.KernelIdeal.pcfgs) kernels_twin

/-- and their main functions. -/
theorem main_twin : Cert.Kernel.main (F := F) = Cert.KernelIdeal.main (F := F) := rfl

/-- So the kernel as compiled ends wherever the other does. -/
theorem run_twin (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  Eq.mp (congrArg (fun D => θ_run D (onTc (τ := Cert.KernelIdeal.τ) (Cert.KernelIdeal.main (F := F))) s Q) defs_twin.symm) h

end Cert.RingProof

end
-- ==== Proof.Value.lean ====
/- What the tiles of the result hold over the extended reals: the epilogue of the whole product. -/
module

public import proofs.«01_k».proof.Proof.Protocol
public import proofs.«01_k».proof.Proof.Gen.ReferenceIdeal.Run
public import Idealize.ShloMosaic.Lib.Layout
public import Idealize.ShloMosaic.Lib.Pointwise

@[expose] public section

noncomputable section

namespace Cert.RingProof

open Cert.KernelIdeal Cert.KernelIdeal.Gen
open Idealize.ShloMosaic
open Idealize.ShloMosaic.TcCoe
open Idealize.SL.Sem

/-! ## Entries by number -/

/-- Entry `(a, b)` of a matrix, zero outside. -/
def ent {R C : ℕ} (f : (⟨2, ![R, C]⟩ : Shape).Idx → EReal) (a b : ℕ) : EReal :=
  if h : a < R ∧ b < C then f (ix2 ⟨a, h.1⟩ ⟨b, h.2⟩) else 0

/-- An entry inside the matrix is its entry by number; -/
theorem ent_ix2 {R C : ℕ} (f : (⟨2, ![R, C]⟩ : Shape).Idx → EReal) (a : Fin R) (b : Fin C) : f (ix2 a b) = ent f a b := by
  unfold ent; rw [dif_pos ⟨a.isLt, b.isLt⟩]

/-- the same at any index. -/
theorem ent_eq {R C : ℕ} (f : (⟨2, ![R, C]⟩ : Shape).Idx → EReal) (i : (⟨2, ![R, C]⟩ : Shape).Idx) : f i = ent f (i 0).val (i 1).val := by
  conv_lhs => rw [eq_ix2 i]
  exact ent_ix2 f _ _

variable (m : (ℓ : Loc nD τ sig) → Buf (Elt Ideal) ℓ) (c : Dev nD)

/-! ## The kernel's operands -/

/-- The staged columns of the input are the argument. -/
theorem xAll_eq : xAll m c = m ((c : Thread nD τ).loc main_arg0) := by
  funext i
  unfold xAll
  rw [View.read_apply]
  have h : (win0_0.blk (0 : Fin 1)).view.emb i = i := funext fun a => Fin.ext (by
    refine (Rect.emb_apply (win0_0.rect (0 : Fin 1)) i a).trans ?_
    show 0 * _ + 1 * (i a).val = (i a).val
    rw [Nat.zero_mul, Nat.zero_add, Nat.one_mul])
  rw [h]
  rfl

/-- A block of rows of them, by entries. -/
theorem rows_apply (o : Fin 2 → Nat) (h : ∀ a, o a + S1024x1024.size a ≤ S4096x1024.size a) (r k : Fin 1024) :
    (Memref.whole cc0_stg0_0 : Memref sig .tc .vmem S4096x1024 .bf16).view.readAt (Elt Ideal) (Rect.unit (s := S4096x1024) o S1024x1024.size h).toLoadRect (xAll m c) (ix2 r k)
      = ent (R := 4096) (C := 1024) (m ((c : Thread nD τ).loc main_arg0)) (o 0 + r.val) (o 1 + k.val) := by
  rw [View.readAt_rect, View.read_apply, xAll_eq]
  refine (ent_eq (R := 4096) (C := 1024) (m ((c : Thread nD τ).loc main_arg0)) _).trans ?_
  have e (a : Fin 2) := Rect.emb_apply (Rect.unit (s := S4096x1024) o S1024x1024.size h) (ix2 r k) a
  exact congr (congrArg _ ((e 0).trans (by show o 0 + 1 * r.val = _; rw [Nat.one_mul]))) ((e 1).trans (by show o 1 + 1 * k.val = _; rw [Nat.one_mul]))

/-- A tile of the weights, by entries. -/
theorem wTile_apply (d t : ℕ) (k : Fin 1024) (n : Fin 512) :
    wTile m c d t (ix2 k n) = ent (R := 1024) (C := 8192) (m ((c : Thread nD τ).loc main_arg1)) k.val (col d t + n.val) := by
  unfold wTile
  pointwise
  rw [View.read_apply]
  refine (ent_eq (R := 1024) (C := 8192) (m ((c : Thread nD τ).loc main_arg1)) _).trans ?_
  have e (a : Fin 2) := Rect.emb_apply (tileR d t) (ix2 k n) a
  exact congr (congrArg _ ((e 0).trans (by show 0 + 1 * k.val = _; rw [Nat.one_mul, Nat.zero_add]))) ((e 1).trans (by show col d t + 1 * n.val = _; rw [Nat.one_mul]))

/-- A product of a block of rows and a tile, as a sum. -/
theorem prod_apply (x : Vec Ideal S1024x1024 .bf16) (w : Vec Ideal S1024x512 .bf16) (r : Fin 1024) (n : Fin 512) :
    prod x w (ix2 r n) = ∑ k : Fin 1024, x (ix2 r k) * w (ix2 k n) := by
  pointwise [prod]

/-! ## The whole matrices -/

variable (X : (⟨2, ![4096, 4096]⟩ : Shape).Idx → EReal) (W : (⟨2, ![4096, 8192]⟩ : Shape).Idx → EReal)

/-- Each device holds its block of columns of `X` and its block of rows of `W`. -/
def Holds : Prop := ∀ c : Dev nD,
  m ((c : Thread nD τ).loc main_arg0) = Layout.block ⟨2, ![4096, 1024]⟩ ⟨2, ![4096, 4096]⟩ 1 4 c X
    ∧ m ((c : Thread nD τ).loc main_arg1) = Layout.block ⟨2, ![1024, 8192]⟩ ⟨2, ![4096, 8192]⟩ 0 4 c W

/-- The product's entry `(a, b)`, summed over the block `e` of the inner index. -/
def slab (a b e : ℕ) : EReal := ∑ k ∈ Finset.range 1024, ent X a (1024 * e + k) * ent W (1024 * e + k) b
/-- The product's entry. -/
def full (a b : ℕ) : EReal := ∑ k ∈ Finset.range 4096, ent X a k * ent W k b

/-- The product's entry is the sum over the four blocks of the inner index. -/
theorem full_eq (a b : ℕ) : full X W a b = slab X W a b 0 + slab X W a b 1 + slab X W a b 2 + slab X W a b 3 := by
  have h (g : ℕ → EReal) : ∑ k ∈ Finset.range 4096, g k = ∑ k ∈ Finset.range 1024, g (1024 * 0 + k) + ∑ k ∈ Finset.range 1024, g (1024 * 1 + k)
      + ∑ k ∈ Finset.range 1024, g (1024 * 2 + k) + ∑ k ∈ Finset.range 1024, g (1024 * 3 + k) := by
    rw [show 4096 = 1024 + 1024 + 1024 + 1024 from rfl, Finset.sum_range_add, Finset.sum_range_add, Finset.sum_range_add]
    simp only [Nat.mul_zero, Nat.zero_add, Nat.mul_one, Nat.reduceMul, Nat.reduceAdd]
  exact h fun k => ent X a k * ent W k b

variable {m X W} (H : Holds m X W)
include H

/-- Device `c`'s part of the input is its block of the columns of `X`; -/
theorem x_ent (a k : ℕ) (hk : k < 1024) : ent (R := 4096) (C := 1024) (m ((c : Thread nD τ).loc main_arg0)) a k = ent X a (1024 * c.val + k) := by
  have hc : c.val < 4 := c.isLt
  rw [(H c).1]
  unfold ent
  by_cases h : a < 4096
  · rw [dif_pos ⟨h, hk⟩, dif_pos ⟨h, by omega⟩, Layout.block_apply]
    refine congrArg X (funext fun i => ?_)
    match i with
    | ⟨0, _⟩ => rfl
    | ⟨1, _⟩ => exact Fin.ext (by show c.val * 1024 + k = 1024 * c.val + k; omega)
  · rw [dif_neg fun h' => h h'.1, dif_neg fun h' => h h'.1]

/-- its part of the weights is its block of the rows of `W`. -/
theorem w_ent (k b : ℕ) (hk : k < 1024) : ent (R := 1024) (C := 8192) (m ((c : Thread nD τ).loc main_arg1)) k b = ent W (1024 * c.val + k) b := by
  have hc : c.val < 4 := c.isLt
  rw [(H c).2]
  unfold ent
  by_cases h : b < 8192
  · rw [dif_pos ⟨hk, h⟩, dif_pos ⟨by omega, h⟩, Layout.block_apply]
    refine congrArg W (funext fun i => ?_)
    match i with
    | ⟨0, _⟩ => exact Fin.ext (by show c.val * 1024 + k = 1024 * c.val + k; omega)
    | ⟨1, _⟩ => rfl
  · rw [dif_neg fun h' => h h'.2, dif_neg fun h' => h h'.2]

/-- The product of a block of rows of device `c`'s columns and one of its tiles is the device's slab of the whole product. -/
theorem prod_rows (o : Fin 2 → Nat) (h : ∀ a, o a + S1024x1024.size a ≤ S4096x1024.size a) (h1 : o 1 = 0) (d t : ℕ) (r : Fin 1024) (n : Fin 512) :
    prod ((Memref.whole cc0_stg0_0 : Memref sig .tc .vmem S4096x1024 .bf16).view.readAt (Elt Ideal) (Rect.unit (s := S4096x1024) o S1024x1024.size h).toLoadRect (xAll m c)) (wTile m c d t) (ix2 r n)
      = slab X W (o 0 + r.val) (col d t + n.val) c.val := by
  rw [prod_apply]
  unfold slab
  rw [Finset.sum_range]
  refine Finset.sum_congr rfl fun k _ => ?_
  rw [rows_apply, wTile_apply, h1, Nat.zero_add, x_ent c H _ _ k.isLt, w_ent c H _ _ k.isLt]

/-! ## The messages -/

omit H in
/-- Message `j` of direction `0` is about the rows of the device `1 + j / 8` places back, of direction `1` forward. -/
theorem xOff_eq (d j : ℕ) : xOff d j c = ![1024 * (if d % 2 = 0 then (c.val + 3 + (4 - j / 8 % 3)) % 4 else (c.val + 1 + j / 8 % 3) % 4), 0] := by
  have h : ∀ b : Bool, ∀ s : Fin 3, ∀ c : Dev nD,
      cond b (k0_off1 c (BitVec.ofNat 32 s.val)) (k0_off2 c (BitVec.ofNat 32 s.val))
        = ![1024 * (cond b ((c.val + 3 + (4 - s.val)) % 4) ((c.val + 1 + s.val) % 4)), 0] := by decide +kernel
  refine (h (Nat.beq (d % 2) 0) ⟨j / 8 % 3, Nat.mod_lt _ (by decide)⟩ c).trans ?_
  rcases Nat.mod_two_eq_zero_or_one d with h | h <;> rw [h] <;> rfl

/-- The rows that a message is about, by the device whose rows they are. -/
theorem part_apply (d j e : ℕ) (he : (if d % 2 = 0 then (c.val + 3 + (4 - j / 8 % 3)) % 4 else (c.val + 1 + j / 8 % 3) % 4) = e)
    (r : Fin 1024) (n : Fin 512) : part m c d j (ix2 r n) = slab X W (1024 * e + r.val) (col d j + n.val) c.val := by
  unfold part xRows
  rw [prod_rows c H (xOff d j c) (xOff_inb d j c) (by rw [xOff_eq]; rfl), xOff_eq, he]
  rfl

/-- A device's product of its own rows and a tile of its weights is its block of the sum, for its own rows of the result. -/
theorem own_apply (d t : ℕ) (r : Fin 1024) (n : Fin 512) :
    prod (xOwn m c) (wTile m c d t) (ix2 r n) = slab X W (1024 * c.val + r.val) (col d t + n.val) c.val := by
  unfold xOwn
  rw [prod_rows c H (k0_off3 c) (k0_off3_inb c) (by rw [k0_off3_eq]; rfl), k0_off3_eq]
  rfl

omit H in
/-- Over the reals a message after one more hop is the device's part plus the message from the device before; -/
theorem hop_succ (d t s : ℕ) (i : S1024x512.Idx) :
    hop m d t (s + 1) c i = part m c d (8 * (s + 1) + t) i + hop m d t s (srcD d c) i := by
  show truncf .bf16 (addf (part m c d (8 * (s + 1) + t)) (extf .f32 (hop m d t s (srcD d c)) bitsLt_bf16_f32)) bitsLt_bf16_f32 i = _
  pointwise

omit H in
/-- at first it is the device's part alone. -/
theorem hop_zero (d t : ℕ) (i : S1024x512.Idx) : hop m d t 0 c i = part m c d t i := by
  show truncf .bf16 (part m c d t) bitsLt_bf16_f32 i = _
  pointwise

omit H in
/-- A tile of the result is the epilogue of the device's own product plus the message after two hops. -/
theorem res_eq (d t : ℕ) (ht : t < 8) (i : S1024x512.Idx) :
    res m c d t = silu (fun i => prod (xOwn m c) (wTile m c d t) i + hop m d t 2 (srcD d c) i) := by
  unfold res msg
  rw [show (16 + t) % 8 = t by omega, show (16 + t) / 8 = 2 by omega]
  refine congrArg silu (funext fun i => ?_)
  pointwise

omit H in
/-- An entry of the kernel's epilogue, -/
theorem silu_apply (y : FVec Ideal S1024x512 .f32) (i : S1024x512.Idx) :
    silu y i = Ideal.div (y i) (1 + Ideal.exp (0 - min (Ideal.ofBits FTy.f32 0x42700000#32) (max (Ideal.ofBits FTy.f32 0xC2700000#32) (y i)))) := by
  pointwise [silu]

/-- What is summed up for a tile of the result is the whole product. -/
theorem sum_apply (d t : ℕ) (hd : d < 2) (ht : t < 8) (r : Fin 1024) (n : Fin 512) :
    prod (xOwn m c) (wTile m c d t) (ix2 r n) + hop m d t 2 (srcD d c) (ix2 r n) = full X W (1024 * c.val + r.val) (col d t + n.val) := by
  have hcol (j : ℕ) (hj : j % 8 = t) : col d j = col d t := by unfold col; rw [hj, Nat.mod_eq_of_lt ht]
  have hv : ∀ d : Fin 2, ∀ c : Dev nD,
      (if d.val % 2 = 0 then ((srcD d c).val + 3 + (4 - 2)) % 4 else ((srcD d c).val + 1 + 2) % 4) = c.val
      ∧ (if d.val % 2 = 0 then ((srcD d (srcD d c)).val + 3 + (4 - 1)) % 4 else ((srcD d (srcD d c)).val + 1 + 1) % 4) = c.val
      ∧ (if d.val % 2 = 0 then ((srcD d (srcD d (srcD d c))).val + 3 + (4 - 0)) % 4 else ((srcD d (srcD d (srcD d c))).val + 1 + 0) % 4) = c.val := by
    decide +kernel
  obtain ⟨h2, h1, h0⟩ := hv ⟨d, hd⟩ c
  rw [own_apply c H, hop_succ, hop_succ, hop_zero,
    part_apply _ H d (8 * (1 + 1) + t) c.val (by rw [show (8 * (1 + 1) + t) / 8 % 3 = 2 by omega]; exact h2),
    part_apply _ H d (8 * (0 + 1) + t) c.val (by rw [show (8 * (0 + 1) + t) / 8 % 3 = 1 by omega]; exact h1),
    part_apply _ H d t c.val (by rw [show t / 8 % 3 = 0 by omega]; exact h0),
    hcol (8 * (1 + 1) + t) (by omega), hcol (8 * (0 + 1) + t) (by omega), full_eq]
  generalize 1024 * c.val + r.val = a
  generalize col d t + n.val = b
  have hs : ∀ d : Fin 2, ∀ c : Dev nD, ∀ f : Fin 4 → EReal,
      f c + (f (srcD d c) + (f (srcD d (srcD d c)) + f (srcD d (srcD d (srcD d c))))) = f 0 + f 1 + f 2 + f 3 := by
    intro d c f
    have hp : ∀ d : Fin 2, ∀ c : Dev nD, srcD d c = (if d = 0 then c + 3 else c + 1) ∧ srcD d (srcD d c) = c + 2
        ∧ srcD d (srcD d (srcD d c)) = if d = 0 then c + 1 else c + 3 := by
      decide +kernel
    obtain ⟨e1, e2, e3⟩ := hp d c
    rw [e3, e2, e1]
    match d, c with
    | 0, 0 => show f 0 + (f 3 + (f 2 + f 1)) = _; ac_rfl
    | 0, 1 => show f 1 + (f 0 + (f 3 + f 2)) = _; ac_rfl
    | 0, 2 => show f 2 + (f 1 + (f 0 + f 3)) = _; ac_rfl
    | 0, 3 => show f 3 + (f 2 + (f 1 + f 0)) = _; ac_rfl
    | 1, 0 => show f 0 + (f 1 + (f 2 + f 3)) = _; ac_rfl
    | 1, 1 => show f 1 + (f 2 + (f 3 + f 0)) = _; ac_rfl
    | 1, 2 => show f 2 + (f 3 + (f 0 + f 1)) = _; ac_rfl
    | 1, 3 => show f 3 + (f 0 + (f 1 + f 2)) = _; ac_rfl
  exact hs ⟨d, hd⟩ c (fun e => slab X W a b e.val)

/-! ## The reference -/

/-- The reference's result: the epilogue of the whole product. -/
def refOut (X : (⟨2, ![4096, 4096]⟩ : Shape).Idx → EReal) (W : (⟨2, ![4096, 8192]⟩ : Shape).Idx → EReal) : (⟨2, ![4096, 8192]⟩ : Shape).Idx → EReal :=
  let D : FVec Ideal Cert.ReferenceIdeal.S4096x8192 .f32 := Host.dotGeneral (F := Ideal) (φ₁ := .f32) (φ₂ := .f32) Cert.ReferenceIdeal.dot_S4096x4096_S4096x8192_S4096x8192_1_0_0_1_n_n none (extf (F := Ideal) (φ := .bf16) .f32 X Cert.ReferenceIdeal.Facts₀.bitsLt_bf16_f32) W
  Host.divf D (addf (broadcastInDim Cert.ReferenceIdeal.S4096x8192 ![] Cert.ReferenceIdeal.Facts₀.bcast_S_S4096x8192 (constant Cert.ReferenceIdeal.S_ .f32 0x3F800000#32))
    (Host.exp (Host.negf (minimumf (broadcastInDim Cert.ReferenceIdeal.S4096x8192 ![] Cert.ReferenceIdeal.Facts₀.bcast_S_S4096x8192 (constant Cert.ReferenceIdeal.S_ .f32 0x42700000#32))
      (maximumf (broadcastInDim Cert.ReferenceIdeal.S4096x8192 ![] Cert.ReferenceIdeal.Facts₀.bcast_S_S4096x8192 (constant Cert.ReferenceIdeal.S_ .f32 0xC2700000#32)) D)))))

omit H in
/-- and the entry of the reference's result, the same function of the product's entry. -/
theorem ref_apply (a : Fin 4096) (b : Fin 8192) : refOut X W (ix2 a b)
    = Ideal.div (full X W a.val b.val) (1 + Ideal.exp (0 - min (Ideal.ofBits FTy.f32 0x42700000#32) (max (Ideal.ofBits FTy.f32 0xC2700000#32) (full X W a.val b.val)))) := by
  have hD : full X W a.val b.val = ∑ k : Fin 4096, X (ix2 a k) * W (ix2 k b) := by
    unfold full
    rw [Finset.sum_range]
    exact Finset.sum_congr rfl fun k _ => by rw [ent_ix2 X, ent_ix2 W]
  rw [hD, zero_sub]
  pointwise [refOut]

/-- A tile of device `c`'s result is that tile of its block of rows of the reference's result. -/
theorem res_apply (d t : ℕ) (hd : d < 2) (ht : t < 8) (r : Fin 1024) (n : Fin 512) :
    res m c d t (ix2 r n) = ent (refOut X W) (1024 * c.val + r.val) (col d t + n.val) := by
  have hc : c.val < 4 := c.isLt
  have hn : col d t + n.val < 8192 := by unfold col; omega
  rw [res_eq c d t ht (ix2 r n), silu_apply, sum_apply c H d t hd ht]
  unfold ent
  rw [dif_pos ⟨by omega, hn⟩, ref_apply]

/-- An array whose tiles hold `res` is device `c`'s block of rows of the reference's result. -/
theorem block_of_tiles (f : Buf (Elt Ideal) ((c : Thread nD τ).loc main_v1))
    (hf : ∀ d < 2, ∀ t < 8, (oV d t).view.read (Elt Ideal) f = res m c d t) :
    f = Layout.block ⟨2, ![1024, 8192]⟩ ⟨2, ![4096, 8192]⟩ 0 4 c (refOut X W) := by
  funext i
  have hc : c.val < 4 := c.isLt
  have h0 : (i 0 : ℕ) < 1024 := (i 0).isLt
  have h1 : (i 1 : ℕ) < 8192 := (i 1).isLt
  let d := (i 1 : ℕ) / 4096
  let t := (i 1 : ℕ) % 4096 / 512
  have hd : d < 2 := by show (i 1 : ℕ) / 4096 < 2; omega
  have ht : t < 8 := by show (i 1 : ℕ) % 4096 / 512 < 8; omega
  have h := congrFun (hf d hd t ht) (ix2 ⟨(i 0 : ℕ), h0⟩ ⟨(i 1 : ℕ) % 512, Nat.mod_lt _ (by decide)⟩)
  have hcol : col d t + (i 1 : ℕ) % 512 = (i 1 : ℕ) := by
    show (i 1 : ℕ) / 4096 % 2 * 4096 + (i 1 : ℕ) % 4096 / 512 % 8 * 512 + (i 1 : ℕ) % 512 = _
    omega
  have e (a : Fin 2) := Rect.emb_apply (tileR d t) (ix2 ⟨(i 0 : ℕ), h0⟩ ⟨(i 1 : ℕ) % 512, Nat.mod_lt _ (by decide)⟩) a
  rw [res_apply c H d t hd ht, View.read_apply] at h
  have hemb : (oV d t).view.emb (ix2 ⟨(i 0 : ℕ), h0⟩ ⟨(i 1 : ℕ) % 512, Nat.mod_lt _ (by decide)⟩) = i := funext fun a => Fin.ext (by
    match a with
    | ⟨0, _⟩ => exact (e 0).trans (by show 0 + 1 * (i 0 : ℕ) = (i 0 : ℕ); omega)
    | ⟨1, _⟩ => exact (e 1).trans (by show col d t + 1 * ((i 1 : ℕ) % 512) = (i 1 : ℕ); omega))
  rw [hemb] at h
  refine (show f i = _ from h).trans ?_
  rw [Layout.block_apply]
  refine Eq.trans ?_ (ent_eq (refOut X W) _).symm
  show ent (refOut X W) (1024 * c.val + (i 0 : ℕ)) (col d t + (i 1 : ℕ) % 512) = ent (refOut X W) (c.val * 1024 + (i 0 : ℕ)) (i 1 : ℕ)
  rw [hcol, Nat.mul_comm]

end Cert.RingProof

end
-- ==== Proof.lean ====
/- The claims of this certificate, each from one run: the run of the ring kernel at any float values
   (Proof/Launch.lean `run_main`), which both of its programs share, and the run of the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem

/-- The kernel as compiled runs, keeps its arguments and ends with every semaphore at zero. -/
theorem frame_Kernel : Cert.quiescent_Kernel := fun m ρ _ =>
  Cert.RingProof.run_twin (F := Bits) ⟨m, fun _ => 0, ρ⟩ _
    ((θ_run Cert.KernelIdeal.defs _ _).mono (fun _ h => ⟨fun c => (h.1 c).1, h.2⟩) (Cert.RingProof.run_main (F := Bits) m ρ))

/-- The kernel over the extended reals runs, keeps its arguments and ends with every semaphore at zero. -/
theorem frame_KernelIdeal : Cert.quiescent_KernelIdeal := fun m ρ _ =>
  (θ_run Cert.KernelIdeal.defs _ _).mono (fun _ h => ⟨fun c => (h.1 c).1, h.2⟩) (Cert.RingProof.run_main (F := Ideal) m ρ)

/-- The reference over the extended reals runs, keeps its arguments and has no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device ends with its block of rows of the reference's result. -/
theorem algebraic : Cert.algebraic_KernelIdeal_ReferenceIdeal := fun m ρ m' ρ' _ H =>
  ⟨Cert.RingProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨Cert.RingProof.block_of_tiles c H _ (h.1 c).2, (h.1 c).1⟩)
      (Cert.RingProof.run_main (F := Ideal) m ρ),
    (θ_run Cert.ReferenceIdeal.defs _ _).mono (fun _ h => h 0) (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
